-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S4096x64 : Shape := ⟨2, ![4096, 64]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S4096x64 .f32) (main_arg1 : IVec S4096 32) (main_arg2 : FVec F S4096x64 .f32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 64#32
  let main_v2 : IVec S4096 32 := broadcastInDim S4096 ![] bcast_S_S4096 main_c_0
  let main_v3 : IVec S4096 1 := cmpi .slt main_arg1 main_v2
  let main_v4 : IVec S4096 1 := andi main_v1 main_v3
  main_v4
-- ==== Kernel.lean ====
abbrev S4096x64 : Shape := ⟨2, ![4096, 64]⟩
abbrev S4096 : Shape := ⟨1, ![4096]⟩
abbrev S4096x1 : Shape := ⟨2, ![4096, 1]⟩
abbrev S64x4096 : Shape := ⟨2, ![64, 4096]⟩
abbrev S8x4096 : Shape := ⟨2, ![8, 4096]⟩
abbrev S1x4096 : Shape := ⟨2, ![1, 4096]⟩
abbrev S1x1 : Shape := ⟨2, ![1, 1]⟩
abbrev S_ : Shape := ⟨0, ![]⟩
abbrev S64x256 : Shape := ⟨2, ![64, 256]⟩
abbrev S8x256 : Shape := ⟨2, ![8, 256]⟩
abbrev S256 : Shape := ⟨1, ![256]⟩
abbrev S1x256 : Shape := ⟨2, ![1, 256]⟩
abbrev S4096x256 : Shape := ⟨2, ![4096, 256]⟩
abbrev S8x512 : Shape := ⟨2, ![8, 512]⟩
abbrev S1x512 : Shape := ⟨2, ![1, 512]⟩
abbrev S4096x512 : Shape := ⟨2, ![4096, 512]⟩
abbrev S512 : Shape := ⟨1, ![512]⟩
abbrev S256x64 : Shape := ⟨2, ![256, 64]⟩
abbrev S256x1 : Shape := ⟨2, ![256, 1]⟩
abbrev S256x4096 : Shape := ⟨2, ![256, 4096]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 19
  | .vmem => 20
  | .smem => 2
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S4096x64, .f32⟩
  | .hbm, ⟨3, _⟩ => ⟨S4096x1, .i32⟩
  | .hbm, ⟨4, _⟩ => ⟨S64x4096, .f32⟩
  | .hbm, ⟨5, _⟩ => ⟨S8x4096, .f32⟩
  | .hbm, ⟨6, _⟩ => ⟨S8x4096, .i32⟩
  | .hbm, ⟨7, _⟩ => ⟨S1x4096, .f32⟩
  | .hbm, ⟨8, _⟩ => ⟨S4096, .f32⟩
  | .hbm, ⟨9, _⟩ => ⟨S4096x1, .f32⟩
  | .hbm, ⟨10, _⟩ => ⟨S8x4096, .f32⟩
  | .hbm, ⟨11, _⟩ => ⟨S1x1, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S4096x64, .f32⟩
  | .local _ .vmem, ⟨1, _⟩ => ⟨S64x256, .f32⟩
  | .local _ .vmem, ⟨2, _⟩ => ⟨S64x256, .f32⟩
  | .local _ .vmem, ⟨3, _⟩ => ⟨S4096x1, .i32⟩
  | .local _ .vmem, ⟨4, _⟩ => ⟨S8x256, .f32⟩
  | .local _ .vmem, ⟨5, _⟩ => ⟨S8x256, .f32⟩
  | .local _ .vmem, ⟨6, _⟩ => ⟨S8x256, .i32⟩
  | .local _ .vmem, ⟨7, _⟩ => ⟨S8x256, .i32⟩
  | .local _ .vmem, ⟨8, _⟩ => ⟨S8x512, .f32⟩
  | .local _ .vmem, ⟨9, _⟩ => ⟨S8x512, .f32⟩
  | .local _ .vmem, ⟨10, _⟩ => ⟨S4096x1, .f32⟩
  | .local _ .vmem, ⟨11, _⟩ => ⟨S8x512, .f32⟩
  | .local _ .vmem, ⟨12, _⟩ => ⟨S8x512, .f32⟩
  | .local _ .vmem, ⟨13, _⟩ => ⟨S256x64, .f32⟩
  | .local _ .vmem, ⟨14, _⟩ => ⟨S256x64, .f32⟩
  | .local _ .vmem, ⟨15, _⟩ => ⟨S64x4096, .f32⟩
  | .local _ .vmem, ⟨16, _⟩ => ⟨S256x1, .i32⟩
  | .local _ .vmem, ⟨17, _⟩ => ⟨S256x1, .i32⟩
  | .local _ .vmem, ⟨18, _⟩ => ⟨S8x4096, .f32⟩
  | .local _ .vmem, ⟨19, _⟩ => ⟨S8x4096, .i32⟩
  | .local _ .smem, ⟨0, _⟩ => ⟨S1x1, .f32⟩
  | .local _ .smem, ⟨1, _⟩ => ⟨S1x1, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2_0 : Ref sig .tc := ⟨.hbm, 5, rfl⟩
abbrev main_call0_v2_1 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7_0 : Ref sig .tc := ⟨.hbm, 11, rfl⟩
abbrev main_call0_v7_1 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_cst : Ref sig .tc := ⟨.hbm, 16, rfl⟩
abbrev main_call0_v11 : Ref sig .tc := ⟨.hbm, 17, rfl⟩
abbrev main_v0 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.smem, 0, rfl⟩
abbrev cc2_stg6_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x4096 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .smem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .smem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]
-- ==== ReferenceIdeal.lean ====
abbrev S4096x64 : Shape := ⟨2, ![4096, 64]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S64x4096 : Shape := ⟨2, ![64, 4096]⟩
abbrev S5x4096 : Shape := ⟨2, ![5, 4096]⟩
abbrev S5x4096x1 : Shape := ⟨3, ![5, 4096, 1]⟩
abbrev S5x1x4096 : Shape := ⟨3, ![5, 1, 4096]⟩
abbrev S1x5x4096 : Shape := ⟨3, ![1, 5, 4096]⟩
abbrev S5x5x4096 : Shape := ⟨3, ![5, 5, 4096]⟩
abbrev S1x4096x1 : Shape := ⟨3, ![1, 4096, 1]⟩
abbrev S1 : Shape := ⟨1, ![1]⟩
abbrev S1x1x1 : Shape := ⟨3, ![1, 1, 1]⟩
abbrev S4096x5 : Shape := ⟨2, ![4096, 5]⟩
abbrev S2048 : Shape := ⟨1, ![2048]⟩
abbrev S2048x1 : Shape := ⟨2, ![2048, 1]⟩
abbrev S4096x2048 : Shape := ⟨2, ![4096, 2048]⟩
abbrev S1x2048 : Shape := ⟨2, ![1, 2048]⟩

abbrev nBuf : Space → Nat
  | .hbm => 190
  | .vmem => 0
  | .smem => 0
  | _ => 0

abbrev hbmTy0_0 (i : Nat) : BufTy := match i % 128 with
  | 0 => ⟨S4096x64, .f32⟩
  | 1 => ⟨S4096, .i32⟩
  | 2 => ⟨S4096x64, .f32⟩
  | 3 => ⟨S4096x64, .f32⟩
  | 4 => ⟨S_, .f32⟩
  | 5 => ⟨S4096, .f32⟩
  | 6 => ⟨S4096x1, .f32⟩
  | 7 => ⟨S4096x64, .f32⟩
  | 8 => ⟨S_, .f32⟩
  | 9 => ⟨S4096, .f32⟩
  | 10 => ⟨S1x4096, .f32⟩
  | 11 => ⟨S4096x4096, .f32⟩
  | 12 => ⟨S4096x4096, .f32⟩
  | 13 => ⟨S4096x4096, .f32⟩
  | 14 => ⟨S64x4096, .f32⟩
  | 15 => ⟨S4096x4096, .f32⟩
  | 16 => ⟨S_, .f32⟩
  | 17 => ⟨S4096x4096, .f32⟩
  | 18 => ⟨S4096x4096, .f32⟩
  | 19 => ⟨S4096x4096, .f32⟩
  | 20 => ⟨S_, .f32⟩
  | 21 => ⟨S4096x4096, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S_, .f32⟩
  | 28 => ⟨S4096x4096, .f32⟩
  | 29 => ⟨S4096x4096, .f32⟩
  | 30 => ⟨S4096x4096, .f32⟩
  | 31 => ⟨S4096x4096, .i32⟩
  | 32 => ⟨S4096x4096, .f32⟩
  | 33 => ⟨S4096x4096, .i32⟩
  | 34 => ⟨S5x4096, .i32⟩
  | 35 => ⟨S_, .i32⟩
  | 36 => ⟨S5x4096, .i32⟩
  | 37 => ⟨S5x4096, .i1⟩
  | 38 => ⟨S_, .i32⟩
  | 39 => ⟨S5x4096, .i32⟩
  | 40 => ⟨S5x4096, .i32⟩
  | 41 => ⟨S5x4096, .i32⟩
  | 42 => ⟨S5x4096x1, .i32⟩
  | 43 => ⟨S5x4096, .i32⟩
  | 44 => ⟨S5x1x4096, .i32⟩
  | 45 => ⟨S1x5x4096, .i32⟩
  | 46 => ⟨S5x5x4096, .i32⟩
  | 47 => ⟨S5x5x4096, .i32⟩
  | 48 => ⟨S5x5x4096, .i1⟩
  | 49 => ⟨S5x5x4096, .i32⟩
  | 50 => ⟨S_, .i32⟩
  | 51 => ⟨S5x4096, .i32⟩
  | 52 => ⟨S_, .i32⟩
  | 53 => ⟨S5x4096, .i32⟩
  | 54 => ⟨S5x4096, .i32⟩
  | 55 => ⟨S_, .i32⟩
  | 56 => ⟨S5x4096, .i32⟩
  | 57 => ⟨S5x4096, .i32⟩
  | 58 => ⟨S5x4096, .i32⟩
  | 59 => ⟨S5x4096, .i32⟩
  | 60 => ⟨S_, .i32⟩
  | 61 => ⟨S_, .i32⟩
  | 62 => ⟨S4096, .i32⟩
  | 63 => ⟨S4096, .i32⟩
  | 64 => ⟨S1x4096, .i32⟩
  | 65 => ⟨S_, .i32⟩
  | 66 => ⟨S1x4096, .i32⟩
  | 67 => ⟨S1x4096, .i1⟩
  | 68 => ⟨S_, .i32⟩
  | 69 => ⟨S1x4096, .i32⟩
  | 70 => ⟨S1x4096, .i32⟩
  | 71 => ⟨S1x4096, .i32⟩
  | 72 => ⟨S1x4096x1, .i32⟩
  | 73 => ⟨S1, .i32⟩
  | 74 => ⟨S_, .i32⟩
  | 75 => ⟨S1x4096x1, .i32⟩
  | 76 => ⟨S1x4096x1, .i1⟩
  | 77 => ⟨S1x1x1, .i32⟩
  | 78 => ⟨S1x4096x1, .i32⟩
  | 79 => ⟨S1x4096x1, .i1⟩
  | 80 => ⟨S1x4096x1, .i1⟩
  | 81 => ⟨S_, .i1⟩
  | 82 => ⟨S1x4096, .i1⟩
  | 83 => ⟨S1x4096, .i32⟩
  | 84 => ⟨S_, .i32⟩
  | 85 => ⟨S1x4096, .i32⟩
  | 86 => ⟨S1x4096, .i32⟩
  | 87 => ⟨S4096, .i32⟩
  | 88 => ⟨S4096x1, .i32⟩
  | 89 => ⟨S1x4096, .i32⟩
  | 90 => ⟨S4096x4096, .i32⟩
  | 91 => ⟨S4096x4096, .i32⟩
  | 92 => ⟨S4096x4096, .i1⟩
  | 93 => ⟨S4096x4096, .f32⟩
  | 94 => ⟨S4096x4096, .i1⟩
  | 95 => ⟨S_, .f32⟩
  | 96 => ⟨S4096x4096, .f32⟩
  | 97 => ⟨S4096x4096, .f32⟩
  | 98 => ⟨S4096x5, .f32⟩
  | 99 => ⟨S4096x5, .i32⟩
  | 100 => ⟨S_, .f32⟩
  | 101 => ⟨S4096, .f32⟩
  | 102 => ⟨S4096x4096, .i1⟩
  | 103 => ⟨S4096x4096, .i1⟩
  | 104 => ⟨S_, .f32⟩
  | 105 => ⟨S4096x4096, .f32⟩
  | 106 => ⟨S4096x4096, .f32⟩
  | 107 => ⟨S4096x5, .f32⟩
  | 108 => ⟨S4096x5, .i32⟩
  | 109 => ⟨S_, .f32⟩
  | 110 => ⟨S4096, .f32⟩
  | 111 => ⟨S4096, .f32⟩
  | 112 => ⟨S4096, .f32⟩
  | 113 => ⟨S4096, .i32⟩
  | 114 => ⟨S4096, .f32⟩
  | 115 => ⟨S4096, .i32⟩
  | 116 => ⟨S2048, .i32⟩
  | 117 => ⟨S_, .i32⟩
  | 118 => ⟨S2048, .i32⟩
  | 119 => ⟨S2048, .i1⟩
  | 120 => ⟨S_, .i32⟩
  | 121 => ⟨S2048, .i32⟩
  | 122 => ⟨S2048, .i32⟩
  | 123 => ⟨S2048, .i32⟩
  | 124 => ⟨S2048x1, .i32⟩
  | 125 => ⟨S4096x2048, .f32⟩
  | 126 => ⟨S_, .i32⟩
  | 127 => ⟨S2048, .i32⟩
  | _ => ⟨S4096x64, .f32⟩

abbrev hbmTy0_1 (i : Nat) : BufTy := match i % 128 with
  | 0 => ⟨S2048, .i1⟩
  | 1 => ⟨S_, .i32⟩
  | 2 => ⟨S2048, .i32⟩
  | 3 => ⟨S2048, .i32⟩
  | 4 => ⟨S2048, .i32⟩
  | 5 => ⟨S2048x1, .i32⟩
  | 6 => ⟨S2048, .i32⟩
  | 7 => ⟨S4096x1, .i32⟩
  | 8 => ⟨S1x2048, .i32⟩
  | 9 => ⟨S4096x2048, .i32⟩
  | 10 => ⟨S4096x2048, .i32⟩
  | 11 => ⟨S4096x2048, .i1⟩
  | 12 => ⟨S4096x2048, .f32⟩
  | 13 => ⟨S_, .f32⟩
  | 14 => ⟨S4096, .f32⟩
  | 15 => ⟨S_, .f32⟩
  | 16 => ⟨S4096, .f32⟩
  | 17 => ⟨S4096, .i1⟩
  | 18 => ⟨S_, .f32⟩
  | 19 => ⟨S4096x2048, .f32⟩
  | 20 => ⟨S4096x2048, .f32⟩
  | 21 => ⟨S_, .f32⟩
  | 22 => ⟨S4096, .f32⟩
  | 23 => ⟨S_, .f32⟩
  | 24 => ⟨S4096, .f32⟩
  | 25 => ⟨S4096, .i1⟩
  | 26 => ⟨S4096, .i1⟩
  | 27 => ⟨S_, .f32⟩
  | 28 => ⟨S4096, .f32⟩
  | 29 => ⟨S_, .f32⟩
  | 30 => ⟨S4096, .f32⟩
  | 31 => ⟨S4096, .f32⟩
  | 32 => ⟨S4096x1, .f32⟩
  | 33 => ⟨S4096x2048, .f32⟩
  | 34 => ⟨S4096x2048, .f32⟩
  | 35 => ⟨S4096x2048, .f32⟩
  | 36 => ⟨S_, .f32⟩
  | 37 => ⟨S4096, .f32⟩
  | 38 => ⟨S4096x1, .f32⟩
  | 39 => ⟨S4096x2048, .f32⟩
  | 40 => ⟨S4096x2048, .f32⟩
  | 41 => ⟨S4096x2048, .f32⟩
  | 42 => ⟨S_, .f32⟩
  | 43 => ⟨S4096, .f32⟩
  | 44 => ⟨S_, .f32⟩
  | 45 => ⟨S_, .f32⟩
  | 46 => ⟨S4096, .f32⟩
  | 47 => ⟨S4096, .f32⟩
  | 48 => ⟨S4096, .f32⟩
  | 49 => ⟨S_, .f32⟩
  | 50 => ⟨S_, .f32⟩
  | 51 => ⟨S_, .f32⟩
  | 52 => ⟨S_, .f32⟩
  | 53 => ⟨S4096, .f32⟩
  | 54 => ⟨S_, .f32⟩
  | 55 => ⟨S_, .f32⟩
  | 56 => ⟨S4096, .f32⟩
  | 57 => ⟨S4096, .f32⟩
  | 58 => ⟨S_, .f32⟩
  | 59 => ⟨S_, .f32⟩
  | 60 => ⟨S_, .f32⟩
  | 61 => ⟨S_, .f32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1_0 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call1_v0 : Ref sig .tc := ⟨.hbm, 59, rfl⟩
abbrev main_call1_c : Ref sig .tc := ⟨.hbm, 60, rfl⟩
abbrev main_call1_c_0 : Ref sig .tc := ⟨.hbm, 61, rfl⟩
abbrev main_call1_v1_0 : Ref sig .tc := ⟨.hbm, 62, rfl⟩
abbrev main_v43 : Ref sig .tc := ⟨.hbm, 63, rfl⟩
abbrev main_v44 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_c_4 : Ref sig .tc := ⟨.hbm, 84, rfl⟩
abbrev main_call2_v14 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_9 : Ref sig .tc := ⟨.hbm, 95, rfl⟩
abbrev main_call3_v0 : Ref sig .tc := ⟨.hbm, 96, rfl⟩
abbrev main_v54 : Ref sig .tc := ⟨.hbm, 97, rfl⟩
abbrev main_values : Ref sig .tc := ⟨.hbm, 98, rfl⟩
abbrev main_indices : Ref sig .tc := ⟨.hbm, 99, rfl⟩
abbrev main_cst_10 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_11 : Ref sig .tc := ⟨.hbm, 104, rfl⟩
abbrev main_call4_v0 : Ref sig .tc := ⟨.hbm, 105, rfl⟩
abbrev main_v58 : Ref sig .tc := ⟨.hbm, 106, rfl⟩
abbrev main_values_12 : Ref sig .tc := ⟨.hbm, 107, rfl⟩
abbrev main_indices_13 : Ref sig .tc := ⟨.hbm, 108, rfl⟩
abbrev main_cst_14 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_call5_v0 : Ref sig .tc := ⟨.hbm, 113, rfl⟩
abbrev main_call5_v1_0 : Ref sig .tc := ⟨.hbm, 114, rfl⟩
abbrev main_v62 : Ref sig .tc := ⟨.hbm, 115, rfl⟩
abbrev main_v63 : Ref sig .tc := ⟨.hbm, 116, rfl⟩
abbrev main_c_15 : Ref sig .tc := ⟨.hbm, 117, rfl⟩
abbrev main_v64 : Ref sig .tc := ⟨.hbm, 118, rfl⟩
abbrev main_v65 : Ref sig .tc := ⟨.hbm, 119, rfl⟩
abbrev main_c_16 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_c_17 : Ref sig .tc := ⟨.hbm, 126, rfl⟩
abbrev main_v71 : Ref sig .tc := ⟨.hbm, 127, rfl⟩
abbrev main_v72 : Ref sig .tc := ⟨.hbm, 128, rfl⟩
abbrev main_c_18 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_19 : Ref sig .tc := ⟨.hbm, 141, rfl⟩
abbrev main_v84 : Ref sig .tc := ⟨.hbm, 142, rfl⟩
abbrev main_cst_20 : Ref sig .tc := ⟨.hbm, 143, rfl⟩
abbrev main_v85 : Ref sig .tc := ⟨.hbm, 144, rfl⟩
abbrev main_v86 : Ref sig .tc := ⟨.hbm, 145, rfl⟩
abbrev main_cst_21 : Ref sig .tc := ⟨.hbm, 146, rfl⟩
abbrev main_v87 : Ref sig .tc := ⟨.hbm, 147, rfl⟩
abbrev main_v88 : Ref sig .tc := ⟨.hbm, 148, rfl⟩
abbrev main_cst_22 : Ref sig .tc := ⟨.hbm, 149, rfl⟩
abbrev main_v89 : Ref sig .tc := ⟨.hbm, 150, rfl⟩
abbrev main_cst_23 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_cst_24 : Ref sig .tc := ⟨.hbm, 155, rfl⟩
abbrev main_v93 : Ref sig .tc := ⟨.hbm, 156, rfl⟩
abbrev main_cst_25 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_26 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_cst_27 : Ref sig .tc := ⟨.hbm, 170, rfl⟩
abbrev main_v105 : Ref sig .tc := ⟨.hbm, 171, rfl⟩
abbrev main_cst_28 : Ref sig .tc := ⟨.hbm, 172, rfl⟩
abbrev main_call6_v0 : Ref sig .tc := ⟨.hbm, 173, rfl⟩
abbrev main_call6_v1 : Ref sig .tc := ⟨.hbm, 174, rfl⟩
abbrev main_v106 : Ref sig .tc := ⟨.hbm, 175, rfl⟩
abbrev main_v107 : Ref sig .tc := ⟨.hbm, 176, rfl⟩
abbrev main_cst_29 : Ref sig .tc := ⟨.hbm, 177, rfl⟩
abbrev main_v108 : Ref sig .tc := ⟨.hbm, 178, rfl⟩
abbrev main_cst_30 : Ref sig .tc := ⟨.hbm, 179, rfl⟩
abbrev main_v109 : Ref sig .tc := ⟨.hbm, 180, rfl⟩
abbrev main_v110 : Ref sig .tc := ⟨.hbm, 181, rfl⟩
abbrev main_cst_31 : Ref sig .tc := ⟨.hbm, 182, rfl⟩
abbrev main_call7_v0 : Ref sig .tc := ⟨.hbm, 183, rfl⟩
abbrev main_call7_v1 : Ref sig .tc := ⟨.hbm, 184, rfl⟩
abbrev main_v111 : Ref sig .tc := ⟨.hbm, 185, rfl⟩
abbrev main_cst_32 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩

abbrev nD : Nat := 1
abbrev τ : Topo := Topo.v7x

variable {F : FTy → Type} [FloatOps F]
-- ==== Proof.RefRun.lean ====
/- The reference program's @main as a list of its 187 host operations, and its run: every weakly fair execution
   terminates with the result buffer at the operations' composed term of the arguments' launch contents and with the
   arguments unchanged. The list is cut at the program's own parts; each buffer's contents after a part is named
   (`val…`), and a value that several later operations read has a name of its own (`res_…`). The value modules
   state what those named terms are, entry by entry. The text of this module is generated from
   proof/ReferenceIdeal.lean, not written by hand; NOTES.md says how. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 187 (window `main_part0`). -/
abbrev ops_part0_0 : List (HloOp τ sig (Elt F)) :=
  [ binary main_arg0 main_arg0 main_v0 (mulf : (⟨S4096x64, .f32⟩ : BufTy).Contents (Elt F) → (⟨S4096x64, .f32⟩ : BufTy).Contents (Elt F) → (⟨S4096x64, .f32⟩ : BufTy).Contents (Elt F)),
    nullary main_cst (constant S_ .f32 0x00000000#32),
    binary main_v0 main_cst main_v1 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    binary main_arg2 main_arg2 main_v3 (mulf : (⟨S4096x64, .f32⟩ : BufTy).Contents (Elt F) → (⟨S4096x64, .f32⟩ : BufTy).Contents (Elt F) → (⟨S4096x64, .f32⟩ : BufTy).Contents (Elt F)),
    nullary main_cst_0 (constant S_ .f32 0x00000000#32),
    binary main_v3 main_cst_0 main_v4 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v4 main_v5 (broadcastInDim S1x4096 ![1] bcast_S4096_S1x4096_1 : (⟨S4096, .f32⟩ : BufTy).Contents (Elt F) → (⟨S1x4096, .f32⟩ : BufTy).Contents (Elt F)),
    unary main_v2 main_v6 (broadcastInDim S4096x4096 ![0, 1] bcast_S4096x1_S4096x4096_0_1 : (⟨S4096x1, .f32⟩ : BufTy).Contents (Elt F) → (⟨S4096x4096, .f32⟩ : BufTy).Contents (Elt F)),
    unary main_v5 main_v7 (broadcastInDim S4096x4096 ![0, 1] bcast_S1x4096_S4096x4096_0_1 : (⟨S1x4096, .f32⟩ : BufTy).Contents (Elt F) → (⟨S4096x4096, .f32⟩ : BufTy).Contents (Elt F)),
    binary main_v6 main_v7 main_v8 (addf : (⟨S4096x4096, .f32⟩ : BufTy).Contents (Elt F) → (⟨S4096x4096, .f32⟩ : BufTy).Contents (Elt F) → (⟨S4096x4096, .f32⟩ : BufTy).Contents (Elt F)),
    unary main_arg2 main_v9 ((transpose S64x4096 [1, 0] · transposes_S4096x64_S64x4096_1_0) : (⟨S4096x64, .f32⟩ : BufTy).Contents (Elt F) → (⟨S64x4096, .f32⟩ : BufTy).Contents (Elt F)),
    binary main_arg0 main_v9 main_v10 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F)),
    nullary main_cst_1 (constant S_ .f32 0x40000000#32),
    unary main_cst_1 main_v11 (broadcastInDim S4096x4096 ![] bcast_S_S4096x4096 : (⟨S_, .f32⟩ : BufTy).Contents (Elt F) → (⟨S4096x4096, .f32⟩ : BufTy).Contents (Elt F)),
    binary main_v11 main_v10 main_v12 (mulf : (⟨S4096x4096, .f32⟩ : BufTy).Contents (Elt F) → (⟨S4096x4096, .f32⟩ : BufTy).Contents (Elt F) → (⟨S4096x4096, .f32⟩ : BufTy).Contents (Elt F)),
    binary main_v8 main_v12 main_v13 (subf : (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0x2B8CBCCC#32),
    unary main_cst_2 main_v14 (broadcastInDim S4096x4096 ![] bcast_S_S4096x4096 : (⟨S_, .f32⟩ : BufTy).Contents (Elt F) → (⟨S4096x4096, .f32⟩ : BufTy).Contents (Elt F)),
    binary main_v13 main_v14 main_v15 (maximumf : (⟨S4096x4096, .f32⟩ : BufTy).Contents (Elt F) → (⟨S4096x4096, .f32⟩ : BufTy).Contents (Elt F) → (⟨S4096x4096, .f32⟩ : BufTy).Contents (Elt F)),
    unary main_v15 main_v16 (Host.sqrt : (⟨S4096x4096, .f32⟩ : BufTy).Contents (Elt F) → (⟨S4096x4096, .f32⟩ : BufTy).Contents (Elt F)),
    nullary main_cst_3 (constant S_ .f32 0x3F800000#32),
    unary main_cst_3 main_v17 (broadcastInDim S4096x4096 ![] bcast_S_S4096x4096 : (⟨S_, .f32⟩ : BufTy).Contents (Elt F) → (⟨S4096x4096, .f32⟩ : BufTy).Contents (Elt F)),
    binary main_v16 main_v17 main_v18 (addf : (⟨S4096x4096, .f32⟩ : BufTy).Contents (Elt F) → (⟨S4096x4096, .f32⟩ : BufTy).Contents (Elt F) → (⟨S4096x4096, .f32⟩ : BufTy).Contents (Elt F)),
    nullary main_cst_4 (constant S_ .f32 0x3F800000#32),
    unary main_cst_4 main_v19 (broadcastInDim S4096x4096 ![] bcast_S_S4096x4096 : (⟨S_, .f32⟩ : BufTy).Contents (Elt F) → (⟨S4096x4096, .f32⟩ : BufTy).Contents (Elt F)),
    binary main_v19 main_v18 main_v20 (Host.divf : (⟨S4096x4096, .f32⟩ : BufTy).Contents (Elt F) → (⟨S4096x4096, .f32⟩ : BufTy).Contents (Elt F) → (⟨S4096x4096, .f32⟩ : BufTy).Contents (Elt F)),
    unary main_v20 main_v21 (Host.negf : (⟨S4096x4096, .f32⟩ : BufTy).Contents (Elt F) → (⟨S4096x4096, .f32⟩ : BufTy).Contents (Elt F)),
    TRef.nullary (TRef.of (T := ⟨S4096x4096, .i32⟩) main_call0_v0) (iotaInDim S4096x4096 32 0),
    TRef.binary (TRef.of (T := ⟨S4096x4096, .f32⟩) main_v21) (TRef.of (T := ⟨S4096x4096, .i32⟩) main_call0_v0) (TRef.of (T := ⟨S4096x4096, .f32⟩) main_call0_v1_0) (fun x y => (Host.sort2 S4096x4096 0 comparator_f32_i32_d0 x y).1) ]

/-- @main's operations 31 … 60 of 187 (window `main_part0`). -/
abbrev ops_part0_1 : List (HloOp τ sig (Elt F)) :=
  [ TRef.binary (TRef.of (T := ⟨S4096x4096, .f32⟩) main_v21) (TRef.of (T := ⟨S4096x4096, .i32⟩) main_call0_v0) (TRef.of (T := ⟨S4096x4096, .i32⟩) main_v22) (fun x y => (Host.sort2 S4096x4096 0 comparator_f32_i32_d0 x y).2),
    unary main_v22 main_v23 ((extractStridedSlice S5x4096 ![0, 0] · slices_S4096x4096_S5x4096_0_0) : (⟨S4096x4096, .i32⟩ : BufTy).Contents (Elt F) → (⟨S5x4096, .i32⟩ : BufTy).Contents (Elt F)),
    nullary main_c (constantI S_ 32 0#32),
    unary main_c main_v24 (broadcastInDim S5x4096 ![] bcast_S_S5x4096 : (⟨S_, .i32⟩ : BufTy).Contents (Elt F) → (⟨S5x4096, .i32⟩ : BufTy).Contents (Elt F)),
    binary main_v23 main_v24 main_v25 (cmpi .slt : (⟨S5x4096, .i32⟩ : BufTy).Contents (Elt F) → (⟨S5x4096, .i32⟩ : BufTy).Contents (Elt F) → (⟨S5x4096, .i1⟩ : BufTy).Contents (Elt F)),
    nullary main_c_5 (constantI S_ 32 4096#32),
    unary main_c_5 main_v26 (broadcastInDim S5x4096 ![] bcast_S_S5x4096 : (⟨S_, .i32⟩ : BufTy).Contents (Elt F) → (⟨S5x4096, .i32⟩ : BufTy).Contents (Elt F)),
    binary main_v23 main_v26 main_v27 (addi : (⟨S5x4096, .i32⟩ : BufTy).Contents (Elt F) → (⟨S5x4096, .i32⟩ : BufTy).Contents (Elt F) → (⟨S5x4096, .i32⟩ : BufTy).Contents (Elt F)),
    ternary main_v25 main_v27 main_v23 main_v28 (select : (⟨S5x4096, .i1⟩ : BufTy).Contents (Elt F) → (⟨S5x4096, .i32⟩ : BufTy).Contents (Elt F) → (⟨S5x4096, .i32⟩ : BufTy).Contents (Elt F) → (⟨S5x4096, .i32⟩ : BufTy).Contents (Elt F)),
    unary main_v28 main_v29 (broadcastInDim S5x4096x1 ![0, 1] bcast_S5x4096_S5x4096x1_0_1 : (⟨S5x4096, .i32⟩ : BufTy).Contents (Elt F) → (⟨S5x4096x1, .i32⟩ : BufTy).Contents (Elt F)),
    binary main_arg1 main_v29 main_v30 ((fun x i => Host.gather gather_S4096_S5x4096x1_S5x4096_n_0_n_n_0_2_1 x i) : (⟨S4096, .i32⟩ : BufTy).Contents (Elt F) → (⟨S5x4096x1, .i32⟩ : BufTy).Contents (Elt F) → (⟨S5x4096, .i32⟩ : BufTy).Contents (Elt F)),
    unary main_v30 main_v31 (broadcastInDim S5x1x4096 ![0, 2] bcast_S5x4096_S5x1x4096_0_2 : (⟨S5x4096, .i32⟩ : BufTy).Contents (Elt F) → (⟨S5x1x4096, .i32⟩ : BufTy).Contents (Elt F)),
    unary main_v30 main_v32 (broadcastInDim S1x5x4096 ![1, 2] bcast_S5x4096_S1x5x4096_1_2 : (⟨S5x4096, .i32⟩ : BufTy).Contents (Elt F) → (⟨S1x5x4096, .i32⟩ : BufTy).Contents (Elt F)),
    unary main_v31 main_v33 (broadcastInDim S5x5x4096 ![0, 1, 2] bcast_S5x1x4096_S5x5x4096_0_1_2 : (⟨S5x1x4096, .i32⟩ : BufTy).Contents (Elt F) → (⟨S5x5x4096, .i32⟩ : BufTy).Contents (Elt F)),
    unary main_v32 main_v34 (broadcastInDim S5x5x4096 ![0, 1, 2] bcast_S1x5x4096_S5x5x4096_0_1_2 : (⟨S1x5x4096, .i32⟩ : BufTy).Contents (Elt F) → (⟨S5x5x4096, .i32⟩ : BufTy).Contents (Elt F)),
    binary main_v33 main_v34 main_v35 (cmpi .eq : (⟨S5x5x4096, .i32⟩ : BufTy).Contents (Elt F) → (⟨S5x5x4096, .i32⟩ : BufTy).Contents (Elt F) → (⟨S5x5x4096, .i1⟩ : BufTy).Contents (Elt F)),
    unary main_v35 main_v36 ((extui 32 · natLt_1_32) : (⟨S5x5x4096, .i1⟩ : BufTy).Contents (Elt F) → (⟨S5x5x4096, .i32⟩ : BufTy).Contents (Elt F)),
    nullary main_c_6 (constantI S_ 32 0#32),
    binary main_v36 main_c_6 main_v37 ((fun x v => Host.reduce IntOp.addi x v reducesTo_S5x5x4096_S5x4096_d1 h_S_) : (⟨S5x5x4096, .i32⟩ : BufTy).Contents (Elt F) → (⟨S_, .i32⟩ : BufTy).Contents (Elt F) → (⟨S5x4096, .i32⟩ : BufTy).Contents (Elt F)),
    nullary main_c_7 (constantI S_ 32 65#32),
    unary main_c_7 main_v38 (broadcastInDim S5x4096 ![] bcast_S_S5x4096 : (⟨S_, .i32⟩ : BufTy).Contents (Elt F) → (⟨S5x4096, .i32⟩ : BufTy).Contents (Elt F)),
    binary main_v37 main_v38 main_v39 (muli : (⟨S5x4096, .i32⟩ : BufTy).Contents (Elt F) → (⟨S5x4096, .i32⟩ : BufTy).Contents (Elt F) → (⟨S5x4096, .i32⟩ : BufTy).Contents (Elt F)),
    nullary main_c_8 (constantI S_ 32 64#32),
    unary main_c_8 main_v40 (broadcastInDim S5x4096 ![] bcast_S_S5x4096 : (⟨S_, .i32⟩ : BufTy).Contents (Elt F) → (⟨S5x4096, .i32⟩ : BufTy).Contents (Elt F)),
    binary main_v40 main_v30 main_v41 (subi : (⟨S5x4096, .i32⟩ : BufTy).Contents (Elt F) → (⟨S5x4096, .i32⟩ : BufTy).Contents (Elt F) → (⟨S5x4096, .i32⟩ : BufTy).Contents (Elt F)),
    binary main_v39 main_v41 main_v42 (addi : (⟨S5x4096, .i32⟩ : BufTy).Contents (Elt F) → (⟨S5x4096, .i32⟩ : BufTy).Contents (Elt F) → (⟨S5x4096, .i32⟩ : BufTy).Contents (Elt F)),
    TRef.nullary (TRef.of (T := ⟨S5x4096, .i32⟩) main_call1_v0) (iotaInDim S5x4096 32 0),
    TRef.nullary (TRef.of (T := ⟨S_, .i32⟩) main_call1_c) (constantI S_ 32 2147483648#32),
    TRef.nullary (TRef.of (T := ⟨S_, .i32⟩) main_call1_c_0) (constantI S_ 32 0#32),
    TRef.quaternary (TRef.of (T := ⟨S5x4096, .i32⟩) main_v42) (TRef.of (T := ⟨S5x4096, .i32⟩) main_call1_v0) (TRef.of (T := ⟨S_, .i32⟩) main_call1_c) (TRef.of (T := ⟨S_, .i32⟩) main_call1_c_0) (TRef.of (T := ⟨S4096, .i32⟩) main_call1_v1_0) (fun x y u v j => (Host.reduce2 reducer_argmax_i32_i32 x y u v reducesTo_S5x4096_S4096_d0 h_S_ j).1) ]

/-- @main's operations 61 … 87 of 187 (window `main_part0`). -/
abbrev ops_part0_2 : List (HloOp τ sig (Elt F)) :=
  [ TRef.quaternary (TRef.of (T := ⟨S5x4096, .i32⟩) main_v42) (TRef.of (T := ⟨S5x4096, .i32⟩) main_call1_v0) (TRef.of (T := ⟨S_, .i32⟩) main_call1_c) (TRef.of (T := ⟨S_, .i32⟩) main_call1_c_0) (TRef.of (T := ⟨S4096, .i32⟩) main_v43) (fun x y u v j => (Host.reduce2 reducer_argmax_i32_i32 x y u v reducesTo_S5x4096_S4096_d0 h_S_ j).2),
    unary main_v43 main_v44 (broadcastInDim S1x4096 ![1] bcast_S4096_S1x4096_1 : (⟨S4096, .i32⟩ : BufTy).Contents (Elt F) → (⟨S1x4096, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1x4096, .i32⟩) main_call2_v0) (broadcastInDim S1x4096 ![] bcast_S_S1x4096),
    TRef.binary (TRef.of (T := ⟨S1x4096, .i32⟩) main_v44) (TRef.of (T := ⟨S1x4096, .i32⟩) main_call2_v0) (TRef.of (T := ⟨S1x4096, .i1⟩) main_call2_v1) (cmpi .slt),
    TRef.nullary (TRef.of (T := ⟨S_, .i32⟩) main_call2_c_0) (constantI S_ 32 5#32),
    TRef.unary (TRef.of (T := ⟨S_, .i32⟩) main_call2_c_0) (TRef.of (T := ⟨S1x4096, .i32⟩) main_call2_v2) (broadcastInDim S1x4096 ![] bcast_S_S1x4096),
    TRef.binary (TRef.of (T := ⟨S1x4096, .i32⟩) main_v44) (TRef.of (T := ⟨S1x4096, .i32⟩) main_call2_v2) (TRef.of (T := ⟨S1x4096, .i32⟩) main_call2_v3) addi,
    TRef.ternary (TRef.of (T := ⟨S1x4096, .i1⟩) main_call2_v1) (TRef.of (T := ⟨S1x4096, .i32⟩) main_call2_v3) (TRef.of (T := ⟨S1x4096, .i32⟩) main_v44) (TRef.of (T := ⟨S1x4096, .i32⟩) main_call2_v4) select,
    TRef.reshape (TRef.of (T := ⟨S1x4096, .i32⟩) main_call2_v4) (TRef.of (T := ⟨S1x4096x1, .i32⟩) main_call2_v5) (rfl : (.i32 : EltTy) = .i32) shapeCasts_S1x4096_S1x4096x1,
    TRef.nullary (TRef.of (T := ⟨S1, .i32⟩) main_call2_c_1) (constantI S1 32 4#32),
    TRef.nullary (TRef.of (T := ⟨S_, .i32⟩) main_call2_c_2) (constantI S_ 32 0#32),
    TRef.unary (TRef.of (T := ⟨S_, .i32⟩) main_call2_c_2) (TRef.of (T := ⟨S1x4096x1, .i32⟩) main_call2_v6) (broadcastInDim S1x4096x1 ![] bcast_S_S1x4096x1),
    TRef.binary (TRef.of (T := ⟨S1x4096x1, .i32⟩) main_call2_v5) (TRef.of (T := ⟨S1x4096x1, .i32⟩) main_call2_v6) (TRef.of (T := ⟨S1x4096x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1x4096x1, .i32⟩) main_call2_v9) (broadcastInDim S1x4096x1 ![0, 1, 2] bcast_S1x1x1_S1x4096x1_0_1_2),
    TRef.binary (TRef.of (T := ⟨S1x4096x1, .i32⟩) main_call2_v5) (TRef.of (T := ⟨S1x4096x1, .i32⟩) main_call2_v9) (TRef.of (T := ⟨S1x4096x1, .i1⟩) main_call2_v10) (cmpi .sle),
    TRef.binary (TRef.of (T := ⟨S1x4096x1, .i1⟩) main_call2_v7) (TRef.of (T := ⟨S1x4096x1, .i1⟩) main_call2_v10) (TRef.of (T := ⟨S1x4096x1, .i1⟩) main_call2_v11) andi,
    TRef.nullary (TRef.of (T := ⟨S_, .i1⟩) main_call2_c_3) (constantI S_ 1 1#1),
    TRef.binary (TRef.of (T := ⟨S1x4096x1, .i1⟩) main_call2_v11) (TRef.of (T := ⟨S_, .i1⟩) main_call2_c_3) (TRef.of (T := ⟨S1x4096, .i1⟩) main_call2_v12) (fun x v => Host.reduce IntOp.andi x v reducesTo_S1x4096x1_S1x4096_d2 h_S_),
    TRef.binary (TRef.of (T := ⟨S5x4096, .i32⟩) main_v30) (TRef.of (T := ⟨S1x4096x1, .i32⟩) main_call2_v5) (TRef.of (T := ⟨S1x4096, .i32⟩) main_call2_v13) (fun x i => Host.gather gather_S5x4096_S1x4096x1_S1x4096_n_0_1_1_0_2_11 x i),
    TRef.nullary (TRef.of (T := ⟨S_, .i32⟩) main_call2_c_4) (constantI S_ 32 2147483648#32),
    TRef.unary (TRef.of (T := ⟨S_, .i32⟩) main_call2_c_4) (TRef.of (T := ⟨S1x4096, .i32⟩) main_call2_v14) (broadcastInDim S1x4096 ![] bcast_S_S1x4096),
    TRef.ternary (TRef.of (T := ⟨S1x4096, .i1⟩) main_call2_v12) (TRef.of (T := ⟨S1x4096, .i32⟩) main_call2_v13) (TRef.of (T := ⟨S1x4096, .i32⟩) main_call2_v14) (TRef.of (T := ⟨S1x4096, .i32⟩) main_v45) select,
    reshape main_v45 main_v46 (rfl : (.i32 : EltTy) = .i32) shapeCasts_S1x4096_S4096,
    unary main_arg1 main_v47 (broadcastInDim S4096x1 ![0] bcast_S4096_S4096x1_0 : (⟨S4096, .i32⟩ : BufTy).Contents (Elt F) → (⟨S4096x1, .i32⟩ : BufTy).Contents (Elt F)),
    unary main_v46 main_v48 (broadcastInDim S1x4096 ![1] bcast_S4096_S1x4096_1 : (⟨S4096, .i32⟩ : BufTy).Contents (Elt F) → (⟨S1x4096, .i32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 88 … 117 of 187 (window `main_part1`). -/
abbrev ops_part1_0 : List (HloOp τ sig (Elt F)) :=
  [ unary main_v47 main_v49 (broadcastInDim S4096x4096 ![0, 1] bcast_S4096x1_S4096x4096_0_1 : (⟨S4096x1, .i32⟩ : BufTy).Contents (Elt F) → (⟨S4096x4096, .i32⟩ : BufTy).Contents (Elt F)),
    unary main_v48 main_v50 (broadcastInDim S4096x4096 ![0, 1] bcast_S1x4096_S4096x4096_0_1 : (⟨S1x4096, .i32⟩ : BufTy).Contents (Elt F) → (⟨S4096x4096, .i32⟩ : BufTy).Contents (Elt F)),
    binary main_v49 main_v50 main_v51 (cmpi .eq : (⟨S4096x4096, .i32⟩ : BufTy).Contents (Elt F) → (⟨S4096x4096, .i32⟩ : BufTy).Contents (Elt F) → (⟨S4096x4096, .i1⟩ : BufTy).Contents (Elt F)),
    unary main_v20 main_v52 ((transpose S4096x4096 [1, 0] · transposes_S4096x4096_S4096x4096_1_0) : (⟨S4096x4096, .f32⟩ : BufTy).Contents (Elt F) → (⟨S4096x4096, .f32⟩ : BufTy).Contents (Elt F)),
    unary main_v51 main_v53 ((transpose S4096x4096 [1, 0] · transposes_S4096x4096_S4096x4096_1_0) : (⟨S4096x4096, .i1⟩ : BufTy).Contents (Elt F) → (⟨S4096x4096, .i1⟩ : BufTy).Contents (Elt F)),
    nullary main_cst_9 (constant S_ .f32 0xFF800000#32),
    TRef.unary (TRef.of (T := ⟨S_, .f32⟩) main_cst_9) (TRef.of (T := ⟨S4096x4096, .f32⟩) main_call3_v0) (broadcastInDim S4096x4096 ![] bcast_S_S4096x4096),
    TRef.ternary (TRef.of (T := ⟨S4096x4096, .i1⟩) main_v53) (TRef.of (T := ⟨S4096x4096, .f32⟩) main_v52) (TRef.of (T := ⟨S4096x4096, .f32⟩) main_call3_v0) (TRef.of (T := ⟨S4096x4096, .f32⟩) main_v54) select,
    unary main_v54 main_values ((fun x => (Host.topK S4096x5 1 (FloatOps.cmpfTotal .gt) x sliceFits_S4096x4096_S4096x5).1) : (⟨S4096x4096, .f32⟩ : BufTy).Contents (Elt F) → (⟨S4096x5, .f32⟩ : BufTy).Contents (Elt F)),
    unary main_v54 main_indices ((fun x => (Host.topK S4096x5 1 (FloatOps.cmpfTotal .gt) x sliceFits_S4096x4096_S4096x5).2) : (⟨S4096x4096, .f32⟩ : BufTy).Contents (Elt F) → (⟨S4096x5, .i32⟩ : BufTy).Contents (Elt F)),
    nullary main_cst_10 (constant S_ .f32 0x00000000#32),
    binary main_values main_cst_10 main_v55 ((fun x v => Host.reduceAdd x v reducesTo_S4096x5_S4096_d1 h_S_) : (⟨S4096x5, .f32⟩ : BufTy).Contents (Elt F) → (⟨S_, .f32⟩ : BufTy).Contents (Elt F) → (⟨S4096, .f32⟩ : BufTy).Contents (Elt F)),
    unary main_v51 main_v56 ((transpose S4096x4096 [1, 0] · transposes_S4096x4096_S4096x4096_1_0) : (⟨S4096x4096, .i1⟩ : BufTy).Contents (Elt F) → (⟨S4096x4096, .i1⟩ : BufTy).Contents (Elt F)),
    unary main_v56 main_v57 (noti : (⟨S4096x4096, .i1⟩ : BufTy).Contents (Elt F) → (⟨S4096x4096, .i1⟩ : BufTy).Contents (Elt F)),
    nullary main_cst_11 (constant S_ .f32 0xFF800000#32),
    TRef.unary (TRef.of (T := ⟨S_, .f32⟩) main_cst_11) (TRef.of (T := ⟨S4096x4096, .f32⟩) main_call4_v0) (broadcastInDim S4096x4096 ![] bcast_S_S4096x4096),
    TRef.ternary (TRef.of (T := ⟨S4096x4096, .i1⟩) main_v57) (TRef.of (T := ⟨S4096x4096, .f32⟩) main_v52) (TRef.of (T := ⟨S4096x4096, .f32⟩) main_call4_v0) (TRef.of (T := ⟨S4096x4096, .f32⟩) main_v58) select,
    unary main_v58 main_values_12 ((fun x => (Host.topK S4096x5 1 (FloatOps.cmpfTotal .gt) x sliceFits_S4096x4096_S4096x5).1) : (⟨S4096x4096, .f32⟩ : BufTy).Contents (Elt F) → (⟨S4096x5, .f32⟩ : BufTy).Contents (Elt F)),
    unary main_v58 main_indices_13 ((fun x => (Host.topK S4096x5 1 (FloatOps.cmpfTotal .gt) x sliceFits_S4096x4096_S4096x5).2) : (⟨S4096x4096, .f32⟩ : BufTy).Contents (Elt F) → (⟨S4096x5, .i32⟩ : BufTy).Contents (Elt F)),
    nullary main_cst_14 (constant S_ .f32 0x00000000#32),
    binary main_values_12 main_cst_14 main_v59 ((fun x v => Host.reduceAdd x v reducesTo_S4096x5_S4096_d1 h_S_) : (⟨S4096x5, .f32⟩ : BufTy).Contents (Elt F) → (⟨S_, .f32⟩ : BufTy).Contents (Elt F) → (⟨S4096, .f32⟩ : BufTy).Contents (Elt F)),
    binary main_v55 main_v59 main_v60 (Host.divf : (⟨S4096, .f32⟩ : BufTy).Contents (Elt F) → (⟨S4096, .f32⟩ : BufTy).Contents (Elt F) → (⟨S4096, .f32⟩ : BufTy).Contents (Elt F)),
    unary main_v60 main_v61 (Host.negf : (⟨S4096, .f32⟩ : BufTy).Contents (Elt F) → (⟨S4096, .f32⟩ : BufTy).Contents (Elt F)),
    TRef.nullary (TRef.of (T := ⟨S4096, .i32⟩) main_call5_v0) (iotaInDim S4096 32 0),
    TRef.binary (TRef.of (T := ⟨S4096, .f32⟩) main_v61) (TRef.of (T := ⟨S4096, .i32⟩) main_call5_v0) (TRef.of (T := ⟨S4096, .f32⟩) main_call5_v1_0) (fun x y => (Host.sort2 S4096 0 comparator_f32_i32_d0 x y).1),
    TRef.binary (TRef.of (T := ⟨S4096, .f32⟩) main_v61) (TRef.of (T := ⟨S4096, .i32⟩) main_call5_v0) (TRef.of (T := ⟨S4096, .i32⟩) main_v62) (fun x y => (Host.sort2 S4096 0 comparator_f32_i32_d0 x y).2),
    unary main_v62 main_v63 ((extractStridedSlice S2048 ![0] · slices_S4096_S2048_0) : (⟨S4096, .i32⟩ : BufTy).Contents (Elt F) → (⟨S2048, .i32⟩ : BufTy).Contents (Elt F)),
    nullary main_c_15 (constantI S_ 32 0#32),
    unary main_c_15 main_v64 (broadcastInDim S2048 ![] bcast_S_S2048 : (⟨S_, .i32⟩ : BufTy).Contents (Elt F) → (⟨S2048, .i32⟩ : BufTy).Contents (Elt F)),
    binary main_v63 main_v64 main_v65 (cmpi .slt : (⟨S2048, .i32⟩ : BufTy).Contents (Elt F) → (⟨S2048, .i32⟩ : BufTy).Contents (Elt F) → (⟨S2048, .i1⟩ : BufTy).Contents (Elt F)) ]

/-- @main's operations 118 … 147 of 187 (window `main_part1`). -/
abbrev ops_part1_1 : List (HloOp τ sig (Elt F)) :=
  [ nullary main_c_16 (constantI S_ 32 4096#32),
    unary main_c_16 main_v66 (broadcastInDim S2048 ![] bcast_S_S2048 : (⟨S_, .i32⟩ : BufTy).Contents (Elt F) → (⟨S2048, .i32⟩ : BufTy).Contents (Elt F)),
    binary main_v63 main_v66 main_v67 (addi : (⟨S2048, .i32⟩ : BufTy).Contents (Elt F) → (⟨S2048, .i32⟩ : BufTy).Contents (Elt F) → (⟨S2048, .i32⟩ : BufTy).Contents (Elt F)),
    ternary main_v65 main_v67 main_v63 main_v68 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v68 main_v69 (broadcastInDim S2048x1 ![0] bcast_S2048_S2048x1_0 : (⟨S2048, .i32⟩ : BufTy).Contents (Elt F) → (⟨S2048x1, .i32⟩ : BufTy).Contents (Elt F)),
    binary main_v20 main_v69 main_v70 ((fun x i => Host.gather gather_S4096x4096_S2048x1_S4096x2048_0_1_n_n_1_1_40961 x i) : (⟨S4096x4096, .f32⟩ : BufTy).Contents (Elt F) → (⟨S2048x1, .i32⟩ : BufTy).Contents (Elt F) → (⟨S4096x2048, .f32⟩ : BufTy).Contents (Elt F)),
    nullary main_c_17 (constantI S_ 32 0#32),
    unary main_c_17 main_v71 (broadcastInDim S2048 ![] bcast_S_S2048 : (⟨S_, .i32⟩ : BufTy).Contents (Elt F) → (⟨S2048, .i32⟩ : BufTy).Contents (Elt F)),
    binary main_v63 main_v71 main_v72 (cmpi .slt : (⟨S2048, .i32⟩ : BufTy).Contents (Elt F) → (⟨S2048, .i32⟩ : BufTy).Contents (Elt F) → (⟨S2048, .i1⟩ : BufTy).Contents (Elt F)),
    nullary main_c_18 (constantI S_ 32 4096#32),
    unary main_c_18 main_v73 (broadcastInDim S2048 ![] bcast_S_S2048 : (⟨S_, .i32⟩ : BufTy).Contents (Elt F) → (⟨S2048, .i32⟩ : BufTy).Contents (Elt F)),
    binary main_v63 main_v73 main_v74 (addi : (⟨S2048, .i32⟩ : BufTy).Contents (Elt F) → (⟨S2048, .i32⟩ : BufTy).Contents (Elt F) → (⟨S2048, .i32⟩ : BufTy).Contents (Elt F)),
    ternary main_v72 main_v74 main_v63 main_v75 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v75 main_v76 (broadcastInDim S2048x1 ![0] bcast_S2048_S2048x1_0 : (⟨S2048, .i32⟩ : BufTy).Contents (Elt F) → (⟨S2048x1, .i32⟩ : BufTy).Contents (Elt F)),
    binary main_v46 main_v76 main_v77 ((fun x i => Host.gather gather_S4096_S2048x1_S2048_n_0_n_n_0_1_1 x i) : (⟨S4096, .i32⟩ : BufTy).Contents (Elt F) → (⟨S2048x1, .i32⟩ : BufTy).Contents (Elt F) → (⟨S2048, .i32⟩ : BufTy).Contents (Elt F)),
    unary main_arg1 main_v78 (broadcastInDim S4096x1 ![0] bcast_S4096_S4096x1_0 : (⟨S4096, .i32⟩ : BufTy).Contents (Elt F) → (⟨S4096x1, .i32⟩ : BufTy).Contents (Elt F)),
    unary main_v77 main_v79 (broadcastInDim S1x2048 ![1] bcast_S2048_S1x2048_1 : (⟨S2048, .i32⟩ : BufTy).Contents (Elt F) → (⟨S1x2048, .i32⟩ : BufTy).Contents (Elt F)),
    unary main_v78 main_v80 (broadcastInDim S4096x2048 ![0, 1] bcast_S4096x1_S4096x2048_0_1 : (⟨S4096x1, .i32⟩ : BufTy).Contents (Elt F) → (⟨S4096x2048, .i32⟩ : BufTy).Contents (Elt F)),
    unary main_v79 main_v81 (broadcastInDim S4096x2048 ![0, 1] bcast_S1x2048_S4096x2048_0_1 : (⟨S1x2048, .i32⟩ : BufTy).Contents (Elt F) → (⟨S4096x2048, .i32⟩ : BufTy).Contents (Elt F)),
    binary main_v80 main_v81 main_v82 (cmpi .eq : (⟨S4096x2048, .i32⟩ : BufTy).Contents (Elt F) → (⟨S4096x2048, .i32⟩ : BufTy).Contents (Elt F) → (⟨S4096x2048, .i1⟩ : BufTy).Contents (Elt F)),
    unary main_v82 main_v83 (uitofp .f32 : (⟨S4096x2048, .i1⟩ : BufTy).Contents (Elt F) → (⟨S4096x2048, .f32⟩ : BufTy).Contents (Elt F)),
    nullary main_cst_19 (constant S_ .f32 0x00000000#32),
    binary main_v83 main_cst_19 main_v84 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    nullary main_cst_20 (constant S_ .f32 0x00000000#32),
    unary main_cst_20 main_v85 (broadcastInDim S4096 ![] bcast_S_S4096 : (⟨S_, .f32⟩ : BufTy).Contents (Elt F) → (⟨S4096, .f32⟩ : BufTy).Contents (Elt F)),
    binary main_v84 main_v85 main_v86 (cmpf .ogt : (⟨S4096, .f32⟩ : BufTy).Contents (Elt F) → (⟨S4096, .f32⟩ : BufTy).Contents (Elt F) → (⟨S4096, .i1⟩ : BufTy).Contents (Elt F)),
    nullary main_cst_21 (constant S_ .f32 0x3F800000#32),
    unary main_cst_21 main_v87 (broadcastInDim S4096x2048 ![] bcast_S_S4096x2048 : (⟨S_, .f32⟩ : BufTy).Contents (Elt F) → (⟨S4096x2048, .f32⟩ : BufTy).Contents (Elt F)),
    binary main_v87 main_v83 main_v88 (subf : (⟨S4096x2048, .f32⟩ : BufTy).Contents (Elt F) → (⟨S4096x2048, .f32⟩ : BufTy).Contents (Elt F) → (⟨S4096x2048, .f32⟩ : BufTy).Contents (Elt F)),
    nullary main_cst_22 (constant S_ .f32 0x00000000#32) ]

/-- @main's operations 148 … 151 of 187 (window `main_part1`). -/
abbrev ops_part1_2 : List (HloOp τ sig (Elt F)) :=
  [ binary main_v88 main_cst_22 main_v89 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    nullary main_cst_23 (constant S_ .f32 0x00000000#32),
    unary main_cst_23 main_v90 (broadcastInDim S4096 ![] bcast_S_S4096 : (⟨S_, .f32⟩ : BufTy).Contents (Elt F) → (⟨S4096, .f32⟩ : BufTy).Contents (Elt F)),
    binary main_v89 main_v90 main_v91 (cmpf .ogt : (⟨S4096, .f32⟩ : BufTy).Contents (Elt F) → (⟨S4096, .f32⟩ : BufTy).Contents (Elt F) → (⟨S4096, .i1⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 152 … 187 of 187 (window `main_part2`). -/
abbrev ops_part2 : List (HloOp τ sig (Elt F)) :=
  [ binary main_v86 main_v91 main_v92 (andi : (⟨S4096, .i1⟩ : BufTy).Contents (Elt F) → (⟨S4096, .i1⟩ : BufTy).Contents (Elt F) → (⟨S4096, .i1⟩ : BufTy).Contents (Elt F)),
    nullary main_cst_24 (constant S_ .f32 0xFF800000#32),
    binary main_v70 main_cst_24 main_v93 ((fun x v => Host.reduce FloatOps.maximumf x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    nullary main_cst_25 (constant S_ .f32 0xFF800000#32),
    unary main_cst_25 main_v94 (broadcastInDim S4096 ![] bcast_S_S4096 : (⟨S_, .f32⟩ : BufTy).Contents (Elt F) → (⟨S4096, .f32⟩ : BufTy).Contents (Elt F)),
    binary main_v94 main_v93 main_v95 (maximumf : (⟨S4096, .f32⟩ : BufTy).Contents (Elt F) → (⟨S4096, .f32⟩ : BufTy).Contents (Elt F) → (⟨S4096, .f32⟩ : BufTy).Contents (Elt F)),
    unary main_v95 main_v96 (broadcastInDim S4096x1 ![0] bcast_S4096_S4096x1_0 : (⟨S4096, .f32⟩ : BufTy).Contents (Elt F) → (⟨S4096x1, .f32⟩ : BufTy).Contents (Elt F)),
    unary main_v96 main_v97 (broadcastInDim S4096x2048 ![0, 1] bcast_S4096x1_S4096x2048_0_1 : (⟨S4096x1, .f32⟩ : BufTy).Contents (Elt F) → (⟨S4096x2048, .f32⟩ : BufTy).Contents (Elt F)),
    binary main_v70 main_v97 main_v98 (subf : (⟨S4096x2048, .f32⟩ : BufTy).Contents (Elt F) → (⟨S4096x2048, .f32⟩ : BufTy).Contents (Elt F) → (⟨S4096x2048, .f32⟩ : BufTy).Contents (Elt F)),
    unary main_v98 main_v99 (Host.exp : (⟨S4096x2048, .f32⟩ : BufTy).Contents (Elt F) → (⟨S4096x2048, .f32⟩ : BufTy).Contents (Elt F)),
    nullary main_cst_26 (constant S_ .f32 0x00000000#32),
    binary main_v99 main_cst_26 main_v100 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    unary main_v100 main_v101 (broadcastInDim S4096x1 ![0] bcast_S4096_S4096x1_0 : (⟨S4096, .f32⟩ : BufTy).Contents (Elt F) → (⟨S4096x1, .f32⟩ : BufTy).Contents (Elt F)),
    unary main_v101 main_v102 (broadcastInDim S4096x2048 ![0, 1] bcast_S4096x1_S4096x2048_0_1 : (⟨S4096x1, .f32⟩ : BufTy).Contents (Elt F) → (⟨S4096x2048, .f32⟩ : BufTy).Contents (Elt F)),
    binary main_v99 main_v102 main_v103 (Host.divf : (⟨S4096x2048, .f32⟩ : BufTy).Contents (Elt F) → (⟨S4096x2048, .f32⟩ : BufTy).Contents (Elt F) → (⟨S4096x2048, .f32⟩ : BufTy).Contents (Elt F)),
    binary main_v103 main_v83 main_v104 (mulf : (⟨S4096x2048, .f32⟩ : BufTy).Contents (Elt F) → (⟨S4096x2048, .f32⟩ : BufTy).Contents (Elt F) → (⟨S4096x2048, .f32⟩ : BufTy).Contents (Elt F)),
    nullary main_cst_27 (constant S_ .f32 0x00000000#32),
    binary main_v104 main_cst_27 main_v105 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    nullary main_cst_28 (constant S_ .f32 0x3F800000#32),
    TRef.unary (TRef.of (T := ⟨S_, .f32⟩) main_cst_28) (TRef.of (T := ⟨S_, .f32⟩) main_call6_v0) id,
    TRef.unary (TRef.of (T := ⟨S_, .f32⟩) main_call6_v0) (TRef.of (T := ⟨S4096, .f32⟩) main_call6_v1) (broadcastInDim S4096 ![] bcast_S_S4096),
    TRef.ternary (TRef.of (T := ⟨S4096, .i1⟩) main_v92) (TRef.of (T := ⟨S4096, .f32⟩) main_v105) (TRef.of (T := ⟨S4096, .f32⟩) main_call6_v1) (TRef.of (T := ⟨S4096, .f32⟩) main_v106) select,
    unary main_v92 main_v107 (uitofp .f32 : (⟨S4096, .i1⟩ : BufTy).Contents (Elt F) → (⟨S4096, .f32⟩ : BufTy).Contents (Elt F)),
    nullary main_cst_29 (constant S_ .f32 0x00000000#32),
    binary main_v107 main_cst_29 main_v108 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_30 (constant S_ .f32 0x3F800000#32),
    binary main_v108 main_cst_30 main_v109 (maximumf : (⟨S_, .f32⟩ : BufTy).Contents (Elt F) → (⟨S_, .f32⟩ : BufTy).Contents (Elt F) → (⟨S_, .f32⟩ : BufTy).Contents (Elt F)),
    unary main_v106 main_v110 (Host.log : (⟨S4096, .f32⟩ : BufTy).Contents (Elt F) → (⟨S4096, .f32⟩ : BufTy).Contents (Elt F)),
    nullary main_cst_31 (constant S_ .f32 0x00000000#32),
    TRef.unary (TRef.of (T := ⟨S_, .f32⟩) main_cst_31) (TRef.of (T := ⟨S_, .f32⟩) main_call7_v0) id,
    TRef.unary (TRef.of (T := ⟨S_, .f32⟩) main_call7_v0) (TRef.of (T := ⟨S4096, .f32⟩) main_call7_v1) (broadcastInDim S4096 ![] bcast_S_S4096),
    TRef.ternary (TRef.of (T := ⟨S4096, .i1⟩) main_v92) (TRef.of (T := ⟨S4096, .f32⟩) main_v110) (TRef.of (T := ⟨S4096, .f32⟩) main_call7_v1) (TRef.of (T := ⟨S4096, .f32⟩) main_v111) select,
    nullary main_cst_32 (constant S_ .f32 0x00000000#32),
    binary main_v111 main_cst_32 main_v112 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v112 main_v113 (Host.negf : (⟨S_, .f32⟩ : BufTy).Contents (Elt F) → (⟨S_, .f32⟩ : BufTy).Contents (Elt F)),
    binary main_v113 main_v109 main_v114 (Host.divf : (⟨S_, .f32⟩ : BufTy).Contents (Elt F) → (⟨S_, .f32⟩ : BufTy).Contents (Elt F) → (⟨S_, .f32⟩ : BufTy).Contents (Elt F)) ]

/-- @main's 187 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., binary_bufs_sub .., nullary_bufs_sub .., nullary_bufs_sub .., nullary_bufs_sub .., quaternary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., ternary_bufs_sub .., unary_bufs_sub .., unary_bufs_sub .., nullary_bufs_sub .., binary_bufs_sub .., unary_bufs_sub .., unary_bufs_sub .., nullary_bufs_sub .., unary_bufs_sub .., ternary_bufs_sub .., unary_bufs_sub .., unary_bufs_sub .., nullary_bufs_sub .., binary_bufs_sub .., binary_bufs_sub .., unary_bufs_sub .., nullary_bufs_sub .., binary_bufs_sub .., binary_bufs_sub .., unary_bufs_sub .., nullary_bufs_sub .., unary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨binary_bufs_sub .., nullary_bufs_sub .., unary_bufs_sub .., binary_bufs_sub ..⟩
set_option maxRecDepth 8192 in
theorem ops_part1_2_fresh : (ops_part1_2 : List (HloOp τ sig (Elt F))).Forall fun op => op.fresh = ∅ :=
  ⟨rfl, rfl, rfl, rfl⟩
set_option maxRecDepth 8192 in
theorem ops_part2_sub : (ops_part2 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., nullary_bufs_sub .., unary_bufs_sub .., unary_bufs_sub .., ternary_bufs_sub .., unary_bufs_sub .., nullary_bufs_sub .., binary_bufs_sub .., nullary_bufs_sub .., binary_bufs_sub .., unary_bufs_sub .., nullary_bufs_sub .., unary_bufs_sub .., unary_bufs_sub .., ternary_bufs_sub .., nullary_bufs_sub .., binary_bufs_sub .., unary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

set_option maxRecDepth 8192 in
/-- `main_v20`'s composed term of the arguments (named: it is used 3 times). -/
def res_main_v20 (V0 : Valuation τ sig (Elt F)) : (Proc.devRef .tc main_v20 : DevRef τ sig).ty.Contents (Elt F) :=
  Host.divf (broadcastInDim S4096x4096 ![] bcast_S_S4096x4096 (constant S_ .f32 0x3F800000#32)) (addf (Host.sqrt (maximumf (subf (addf (broadcastInDim S4096x4096 ![0, 1] bcast_S4096x1_S4096x4096_0_1 (broadcastInDim S4096x1 ![0] bcast_S4096_S4096x1_0 (Host.reduceAdd (mulf (V0 (Proc.devRef .tc main_arg0)) (V0 (Proc.devRef .tc main_arg0))) (constant S_ .f32 0x00000000#32) reducesTo_S4096x64_S4096_d1 h_S_))) (broadcastInDim S4096x4096 ![0, 1] bcast_S1x4096_S4096x4096_0_1 (broadcastInDim S1x4096 ![1] bcast_S4096_S1x4096_1 (Host.reduceAdd (mulf (V0 (Proc.devRef .tc main_arg2)) (V0 (Proc.devRef .tc main_arg2))) (constant S_ .f32 0x00000000#32) reducesTo_S4096x64_S4096_d1 h_S_)))) (mulf (broadcastInDim S4096x4096 ![] bcast_S_S4096x4096 (constant S_ .f32 0x40000000#32)) (Host.dotGeneral dot_S4096x64_S64x4096_S4096x4096_1_0_0_1_n_n none (V0 (Proc.devRef .tc main_arg0)) (transpose S64x4096 [1, 0] (V0 (Proc.devRef .tc main_arg2)) transposes_S4096x64_S64x4096_1_0)))) (broadcastInDim S4096x4096 ![] bcast_S_S4096x4096 (constant S_ .f32 0x2B8CBCCC#32)))) (broadcastInDim S4096x4096 ![] bcast_S_S4096x4096 (constant S_ .f32 0x3F800000#32)))

set_option maxRecDepth 8192 in
/-- `main_v21`'s composed term of the arguments (named: it is used 2 times). -/
def res_main_v21 (V0 : Valuation τ sig (Elt F)) : (Proc.devRef .tc main_v21 : DevRef τ sig).ty.Contents (Elt F) :=
  Host.negf (res_main_v20 V0)

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S4096x4096 32 0

set_option maxRecDepth 8192 in
/-- `main_v23`'s composed term of the arguments (named: it is used 3 times). -/
def res_main_v23 (V0 : Valuation τ sig (Elt F)) : (Proc.devRef .tc main_v23 : DevRef τ sig).ty.Contents (Elt F) :=
  extractStridedSlice S5x4096 ![0, 0] ((Host.sort2 S4096x4096 0 comparator_f32_i32_d0 (res_main_v21 V0) (res_main_call0_v0 V0)).2) slices_S4096x4096_S5x4096_0_0

set_option maxRecDepth 8192 in
/-- `main_v30`'s composed term of the arguments (named: it is used 4 times). -/
def res_main_v30 (V0 : Valuation τ sig (Elt F)) : (Proc.devRef .tc main_v30 : DevRef τ sig).ty.Contents (Elt F) :=
  Host.gather gather_S4096_S5x4096x1_S5x4096_n_0_n_n_0_2_1 (V0 (Proc.devRef .tc main_arg1)) (broadcastInDim S5x4096x1 ![0, 1] bcast_S5x4096_S5x4096x1_0_1 (select (cmpi .slt (res_main_v23 V0) (broadcastInDim S5x4096 ![] bcast_S_S5x4096 (constantI S_ 32 0#32))) (addi (res_main_v23 V0) (broadcastInDim S5x4096 ![] bcast_S_S5x4096 (constantI S_ 32 4096#32))) (res_main_v23 V0)))

set_option maxRecDepth 8192 in
/-- `main_v42`'s composed term of the arguments (named: it is used 2 times). -/
def res_main_v42 (V0 : Valuation τ sig (Elt F)) : (Proc.devRef .tc main_v42 : DevRef τ sig).ty.Contents (Elt F) :=
  addi (muli (Host.reduce IntOp.addi (extui 32 (cmpi .eq (broadcastInDim S5x5x4096 ![0, 1, 2] bcast_S5x1x4096_S5x5x4096_0_1_2 (broadcastInDim S5x1x4096 ![0, 2] bcast_S5x4096_S5x1x4096_0_2 (res_main_v30 V0))) (broadcastInDim S5x5x4096 ![0, 1, 2] bcast_S1x5x4096_S5x5x4096_0_1_2 (broadcastInDim S1x5x4096 ![1, 2] bcast_S5x4096_S1x5x4096_1_2 (res_main_v30 V0)))) natLt_1_32) (constantI S_ 32 0#32) reducesTo_S5x5x4096_S5x4096_d1 h_S_) (broadcastInDim S5x4096 ![] bcast_S_S5x4096 (constantI S_ 32 65#32))) (subi (broadcastInDim S5x4096 ![] bcast_S_S5x4096 (constantI S_ 32 64#32)) (res_main_v30 V0))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S5x4096 32 0

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 2147483648#32

set_option maxRecDepth 8192 in
/-- `main_call1_c_0`'s composed term of the arguments (named: it is used 2 times). -/
def res_main_call1_c_0 (V0 : Valuation τ sig (Elt F)) : (Proc.devRef .tc main_call1_c_0 : DevRef τ sig).ty.Contents (Elt F) :=
  constantI S_ 32 0#32

set_option maxRecDepth 8192 in
/-- `main_v44`'s composed term of the arguments (named: it is used 3 times). -/
def res_main_v44 (V0 : Valuation τ sig (Elt F)) : (Proc.devRef .tc main_v44 : DevRef τ sig).ty.Contents (Elt F) :=
  broadcastInDim S1x4096 ![1] bcast_S4096_S1x4096_1 ((fun j => (Host.reduce2 reducer_argmax_i32_i32 (res_main_v42 V0) (res_main_call1_v0 V0) (res_main_call1_c V0) (res_main_call1_c_0 V0) reducesTo_S5x4096_S4096_d0 h_S_ j).2))

set_option maxRecDepth 8192 in
/-- `main_call2_v5`'s composed term of the arguments (named: it is used 3 times). -/
def res_main_call2_v5 (V0 : Valuation τ sig (Elt F)) : (Proc.devRef .tc main_call2_v5 : DevRef τ sig).ty.Contents (Elt F) :=
  shapeCast _ (select (cmpi .slt (res_main_v44 V0) (broadcastInDim S1x4096 ![] bcast_S_S1x4096 (constantI S_ 32 0#32))) (addi (res_main_v44 V0) (broadcastInDim S1x4096 ![] bcast_S_S1x4096 (constantI S_ 32 5#32))) (res_main_v44 V0)) shapeCasts_S1x4096_S1x4096x1

set_option maxRecDepth 8192 in
/-- `main_v46`'s composed term of the arguments (named: it is used 2 times). -/
def res_main_v46 (V0 : Valuation τ sig (Elt F)) : (Proc.devRef .tc main_v46 : DevRef τ sig).ty.Contents (Elt F) :=
  shapeCast _ (select (Host.reduce IntOp.andi (andi (cmpi .sge (res_main_call2_v5 V0) (broadcastInDim S1x4096x1 ![] bcast_S_S1x4096x1 (constantI S_ 32 0#32))) (cmpi .sle (res_main_call2_v5 V0) (broadcastInDim S1x4096x1 ![0, 1, 2] bcast_S1x1x1_S1x4096x1_0_1_2 (broadcastInDim S1x1x1 ![2] bcast_S1_S1x1x1_2 (constantI S1 32 4#32))))) (constantI S_ 1 1#1) reducesTo_S1x4096x1_S1x4096_d2 h_S_) (Host.gather gather_S5x4096_S1x4096x1_S1x4096_n_0_1_1_0_2_11 (res_main_v30 V0) (res_main_call2_v5 V0)) (broadcastInDim S1x4096 ![] bcast_S_S1x4096 (constantI S_ 32 2147483648#32))) shapeCasts_S1x4096_S4096

set_option maxRecDepth 8192 in
/-- `main_v51`'s composed term of the arguments (named: it is used 2 times). -/
def res_main_v51 (V0 : Valuation τ sig (Elt F)) : (Proc.devRef .tc main_v51 : DevRef τ sig).ty.Contents (Elt F) :=
  cmpi .eq (broadcastInDim S4096x4096 ![0, 1] bcast_S4096x1_S4096x4096_0_1 (broadcastInDim S4096x1 ![0] bcast_S4096_S4096x1_0 (V0 (Proc.devRef .tc main_arg1)))) (broadcastInDim S4096x4096 ![0, 1] bcast_S1x4096_S4096x4096_0_1 (broadcastInDim S1x4096 ![1] bcast_S4096_S1x4096_1 (res_main_v46 V0)))

set_option maxRecDepth 8192 in
/-- `main_v52`'s composed term of the arguments (named: it is used 2 times). -/
def res_main_v52 (V0 : Valuation τ sig (Elt F)) : (Proc.devRef .tc main_v52 : DevRef τ sig).ty.Contents (Elt F) :=
  transpose S4096x4096 [1, 0] (res_main_v20 V0) transposes_S4096x4096_S4096x4096_1_0

set_option maxRecDepth 8192 in
/-- `main_v54`'s composed term of the arguments (named: it is used 2 times). -/
def res_main_v54 (V0 : Valuation τ sig (Elt F)) : (Proc.devRef .tc main_v54 : DevRef τ sig).ty.Contents (Elt F) :=
  select (transpose S4096x4096 [1, 0] (res_main_v51 V0) transposes_S4096x4096_S4096x4096_1_0) (res_main_v52 V0) (broadcastInDim S4096x4096 ![] bcast_S_S4096x4096 (constant S_ .f32 0xFF800000#32))

set_option maxRecDepth 8192 in
/-- `main_v58`'s composed term of the arguments (named: it is used 2 times). -/
def res_main_v58 (V0 : Valuation τ sig (Elt F)) : (Proc.devRef .tc main_v58 : DevRef τ sig).ty.Contents (Elt F) :=
  select (noti (transpose S4096x4096 [1, 0] (res_main_v51 V0) transposes_S4096x4096_S4096x4096_1_0)) (res_main_v52 V0) (broadcastInDim S4096x4096 ![] bcast_S_S4096x4096 (constant S_ .f32 0xFF800000#32))

set_option maxRecDepth 8192 in
/-- `main_v61`'s composed term of the arguments (named: it is used 2 times). -/
def res_main_v61 (V0 : Valuation τ sig (Elt F)) : (Proc.devRef .tc main_v61 : DevRef τ sig).ty.Contents (Elt F) :=
  Host.negf (Host.divf (Host.reduceAdd ((Host.topK S4096x5 1 (FloatOps.cmpfTotal .gt) (res_main_v54 V0) sliceFits_S4096x4096_S4096x5).1) (constant S_ .f32 0x00000000#32) reducesTo_S4096x5_S4096_d1 h_S_) (Host.reduceAdd ((Host.topK S4096x5 1 (FloatOps.cmpfTotal .gt) (res_main_v58 V0) sliceFits_S4096x4096_S4096x5).1) (constant S_ .f32 0x00000000#32) reducesTo_S4096x5_S4096_d1 h_S_))

set_option maxRecDepth 8192 in
/-- `main_call5_v0`'s composed term of the arguments (named: it is used 2 times). -/
def res_main_call5_v0 (V0 : Valuation τ sig (Elt F)) : (Proc.devRef .tc main_call5_v0 : DevRef τ sig).ty.Contents (Elt F) :=
  iotaInDim S4096 32 0

set_option maxRecDepth 8192 in
/-- `main_v63`'s composed term of the arguments (named: it is used 6 times). -/
def res_main_v63 (V0 : Valuation τ sig (Elt F)) : (Proc.devRef .tc main_v63 : DevRef τ sig).ty.Contents (Elt F) :=
  extractStridedSlice S2048 ![0] ((Host.sort2 S4096 0 comparator_f32_i32_d0 (res_main_v61 V0) (res_main_call5_v0 V0)).2) slices_S4096_S2048_0

set_option maxRecDepth 8192 in
/-- `main_v70`'s composed term of the arguments (named: it is used 2 times). -/
def res_main_v70 (V0 : Valuation τ sig (Elt F)) : (Proc.devRef .tc main_v70 : DevRef τ sig).ty.Contents (Elt F) :=
  Host.gather gather_S4096x4096_S2048x1_S4096x2048_0_1_n_n_1_1_40961 (res_main_v20 V0) (broadcastInDim S2048x1 ![0] bcast_S2048_S2048x1_0 (select (cmpi .slt (res_main_v63 V0) (broadcastInDim S2048 ![] bcast_S_S2048 (constantI S_ 32 0#32))) (addi (res_main_v63 V0) (broadcastInDim S2048 ![] bcast_S_S2048 (constantI S_ 32 4096#32))) (res_main_v63 V0)))

set_option maxRecDepth 8192 in
/-- `main_v83`'s composed term of the arguments (named: it is used 3 times). -/
def res_main_v83 (V0 : Valuation τ sig (Elt F)) : (Proc.devRef .tc main_v83 : DevRef τ sig).ty.Contents (Elt F) :=
  uitofp .f32 (cmpi .eq (broadcastInDim S4096x2048 ![0, 1] bcast_S4096x1_S4096x2048_0_1 (broadcastInDim S4096x1 ![0] bcast_S4096_S4096x1_0 (V0 (Proc.devRef .tc main_arg1)))) (broadcastInDim S4096x2048 ![0, 1] bcast_S1x2048_S4096x2048_0_1 (broadcastInDim S1x2048 ![1] bcast_S2048_S1x2048_1 (Host.gather gather_S4096_S2048x1_S2048_n_0_n_n_0_1_1 (res_main_v46 V0) (broadcastInDim S2048x1 ![0] bcast_S2048_S2048x1_0 (select (cmpi .slt (res_main_v63 V0) (broadcastInDim S2048 ![] bcast_S_S2048 (constantI S_ 32 0#32))) (addi (res_main_v63 V0) (broadcastInDim S2048 ![] bcast_S_S2048 (constantI S_ 32 4096#32))) (res_main_v63 V0)))))))

set_option maxRecDepth 8192 in
/-- `main_v92`'s composed term of the arguments (named: it is used 3 times). -/
def res_main_v92 (V0 : Valuation τ sig (Elt F)) : (Proc.devRef .tc main_v92 : DevRef τ sig).ty.Contents (Elt F) :=
  andi (cmpf .ogt (Host.reduceAdd (res_main_v83 V0) (constant S_ .f32 0x00000000#32) reducesTo_S4096x2048_S4096_d1 h_S_) (broadcastInDim S4096 ![] bcast_S_S4096 (constant S_ .f32 0x00000000#32))) (cmpf .ogt (Host.reduceAdd (subf (broadcastInDim S4096x2048 ![] bcast_S_S4096x2048 (constant S_ .f32 0x3F800000#32)) (res_main_v83 V0)) (constant S_ .f32 0x00000000#32) reducesTo_S4096x2048_S4096_d1 h_S_) (broadcastInDim S4096 ![] bcast_S_S4096 (constant S_ .f32 0x00000000#32)))

set_option maxRecDepth 8192 in
/-- `main_v99`'s composed term of the arguments (named: it is used 2 times). -/
def res_main_v99 (V0 : Valuation τ sig (Elt F)) : (Proc.devRef .tc main_v99 : DevRef τ sig).ty.Contents (Elt F) :=
  Host.exp (subf (res_main_v70 V0) (broadcastInDim S4096x2048 ![0, 1] bcast_S4096x1_S4096x2048_0_1 (broadcastInDim S4096x1 ![0] bcast_S4096_S4096x1_0 (maximumf (broadcastInDim S4096 ![] bcast_S_S4096 (constant S_ .f32 0xFF800000#32)) (Host.reduce FloatOps.maximumf (res_main_v70 V0) (constant S_ .f32 0xFF800000#32) reducesTo_S4096x2048_S4096_d1 h_S_)))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_cst, main_v1, main_v2, main_v3, main_cst_0, main_v4, main_v5, main_v6, main_v7, main_v8, main_v9, main_v10, main_cst_1, main_v11, main_v12, main_v13, main_cst_2, main_v14, main_v15, main_v16, main_cst_3, main_v17, main_v18, main_cst_4, main_v19, main_v20, main_v21, main_call0_v0, main_call0_v1_0]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v20 (V0 : Valuation τ sig (Elt F)) : val0_1 V0 (no_index (Proc.devRef .tc main_v20)) = res_main_v20 V0 := by
  unfold val0_1
  simp only [ops_part0_0, TRef.binary, TRef.nullary, TRef.toBuf, TRef.ofBuf, cast_eq]
  after_results_simp
  simp only [val0_main_arg2, val0_main_arg0] <;> rfl
set_option maxRecDepth 8192 in
set_option maxHeartbeats 2000000 in
theorem val0_1_main_v21 (V0 : Valuation τ sig (Elt F)) : val0_1 V0 (no_index (Proc.devRef .tc main_v21)) = res_main_v21 V0 := by
  unfold val0_1
  simp only [ops_part0_0, TRef.binary, TRef.nullary, TRef.toBuf, TRef.ofBuf, cast_eq]
  after_results_simp
  simp only [val0_main_arg2, val0_main_arg0] <;> rfl
set_option maxRecDepth 8192 in
set_option maxHeartbeats 2000000 in
theorem val0_1_main_call0_v0 (V0 : Valuation τ sig (Elt F)) : val0_1 V0 (no_index (Proc.devRef .tc main_call0_v0)) = res_main_call0_v0 V0 := by
  unfold val0_1
  simp only [ops_part0_0, TRef.binary, TRef.nullary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v22, main_v23, main_c, main_v24, main_v25, main_c_5, main_v26, main_v27, main_v28, main_v29, main_v30, main_v31, main_v32, main_v33, main_v34, main_v35, main_v36, main_c_6, main_v37, main_c_7, main_v38, main_v39, main_c_8, main_v40, main_v41, main_v42, main_call1_v0, main_call1_c, main_call1_c_0, main_call1_v1_0]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_v20 (V0 : Valuation τ sig (Elt F)) : val0_2 V0 (no_index (Proc.devRef .tc main_v20)) = res_main_v20 V0 :=
  (val0_2_keep V0 main_v20 (by decide)).trans (val0_1_main_v20 V0)
set_option maxRecDepth 8192 in
set_option maxHeartbeats 2000000 in
theorem val0_2_main_v30 (V0 : Valuation τ sig (Elt F)) : val0_2 V0 (no_index (Proc.devRef .tc main_v30)) = res_main_v30 V0 := by
  unfold val0_2
  simp only [ops_part0_1, TRef.binary, TRef.nullary, TRef.quaternary, TRef.toBuf, TRef.ofBuf, cast_eq]
  after_results_simp
  simp only [val0_1_main_call0_v0, val0_1_main_v21, val0_1_main_arg1] <;> rfl
set_option maxRecDepth 8192 in
set_option maxHeartbeats 2000000 in
theorem val0_2_main_v42 (V0 : Valuation τ sig (Elt F)) : val0_2 V0 (no_index (Proc.devRef .tc main_v42)) = res_main_v42 V0 := by
  unfold val0_2
  simp only [ops_part0_1, TRef.binary, TRef.nullary, TRef.quaternary, TRef.toBuf, TRef.ofBuf, cast_eq]
  after_results_simp
  simp only [val0_1_main_call0_v0, val0_1_main_v21, val0_1_main_arg1] <;> rfl
set_option maxRecDepth 8192 in
set_option maxHeartbeats 2000000 in
theorem val0_2_main_call1_v0 (V0 : Valuation τ sig (Elt F)) : val0_2 V0 (no_index (Proc.devRef .tc main_call1_v0)) = res_main_call1_v0 V0 := by
  unfold val0_2
  simp only [ops_part0_1, TRef.binary, TRef.nullary, TRef.quaternary, TRef.toBuf, TRef.ofBuf, cast_eq]
  after_results_simp
  all_goals rfl
set_option maxRecDepth 8192 in
set_option maxHeartbeats 2000000 in
theorem val0_2_main_call1_c (V0 : Valuation τ sig (Elt F)) : val0_2 V0 (no_index (Proc.devRef .tc main_call1_c)) = res_main_call1_c V0 := by
  unfold val0_2
  simp only [ops_part0_1, TRef.binary, TRef.nullary, TRef.quaternary, TRef.toBuf, TRef.ofBuf, cast_eq]
  after_results_simp
  all_goals rfl
set_option maxRecDepth 8192 in
set_option maxHeartbeats 2000000 in
theorem val0_2_main_call1_c_0 (V0 : Valuation τ sig (Elt F)) : val0_2 V0 (no_index (Proc.devRef .tc main_call1_c_0)) = res_main_call1_c_0 V0 := by
  unfold val0_2
  simp only [ops_part0_1, TRef.binary, TRef.nullary, TRef.quaternary, TRef.toBuf, TRef.ofBuf, cast_eq]
  after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v43, main_v44, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v45, main_v46, main_v47, main_v48]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_v20 (V0 : Valuation τ sig (Elt F)) : val1 V0 (no_index (Proc.devRef .tc main_v20)) = res_main_v20 V0 :=
  (val1_keep V0 main_v20 (by decide)).trans (val0_2_main_v20 V0)
set_option maxRecDepth 8192 in
set_option maxHeartbeats 2000000 in
theorem val1_main_v46 (V0 : Valuation τ sig (Elt F)) : val1 V0 (no_index (Proc.devRef .tc main_v46)) = res_main_v46 V0 := by
  unfold val1
  simp only [ops_part0_2, TRef.binary, TRef.nullary, TRef.quaternary, TRef.reshape, TRef.ternary, TRef.unary, TRef.toBuf, TRef.ofBuf, cast_eq]
  after_results_simp
  simp only [val0_2_main_call1_c_0, val0_2_main_call1_c, val0_2_main_call1_v0, val0_2_main_v42, val0_2_main_v30] <;> rfl
set_option maxRecDepth 8192 in
set_option maxHeartbeats 2000000 in
theorem val1_main_v47 (V0 : Valuation τ sig (Elt F)) : val1 V0 (no_index (Proc.devRef .tc main_v47)) = broadcastInDim S4096x1 ![0] bcast_S4096_S4096x1_0 (V0 (Proc.devRef .tc main_arg1)) := by
  unfold val1
  simp only [ops_part0_2, TRef.binary, TRef.nullary, TRef.quaternary, TRef.reshape, TRef.ternary, TRef.unary, TRef.toBuf, TRef.ofBuf, cast_eq]
  after_results_simp
  simp only [val0_2_main_arg1] <;> rfl
set_option maxRecDepth 8192 in
set_option maxHeartbeats 2000000 in
theorem val1_main_v48 (V0 : Valuation τ sig (Elt F)) : val1 V0 (no_index (Proc.devRef .tc main_v48)) = broadcastInDim S1x4096 ![1] bcast_S4096_S1x4096_1 (res_main_v46 V0) := by
  unfold val1
  simp only [ops_part0_2, TRef.binary, TRef.nullary, TRef.quaternary, TRef.reshape, TRef.ternary, TRef.unary, TRef.toBuf, TRef.ofBuf, cast_eq]
  after_results_simp
  simp only [val0_2_main_call1_c_0, val0_2_main_call1_c, val0_2_main_call1_v0, val0_2_main_v42, val0_2_main_v30] <;> rfl

/-- The device's buffer contents after @main's first 117 operations. -/
def val1_1 (V0 : Valuation τ sig (Elt F)) : Valuation τ sig (Elt F) := after ops_part1_0 (val1 V0)
/-- The buffers that window `ops_part1_0`'s operations write. -/
abbrev ops_part1_0_W : List (Ref sig .tc) := [main_v49, main_v50, main_v51, main_v52, main_v53, main_cst_9, main_call3_v0, main_v54, main_values, main_indices, main_cst_10, main_v55, main_v56, main_v57, main_cst_11, main_call4_v0, main_v58, main_values_12, main_indices_13, main_cst_14, main_v59, main_v60, main_v61, main_call5_v0, main_call5_v1_0, main_v62, main_v63, main_c_15, main_v64, main_v65]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_v20 (V0 : Valuation τ sig (Elt F)) : val1_1 V0 (no_index (Proc.devRef .tc main_v20)) = res_main_v20 V0 :=
  (val1_1_keep V0 main_v20 (by decide)).trans (val1_main_v20 V0)
theorem val1_1_main_v46 (V0 : Valuation τ sig (Elt F)) : val1_1 V0 (no_index (Proc.devRef .tc main_v46)) = res_main_v46 V0 :=
  (val1_1_keep V0 main_v46 (by decide)).trans (val1_main_v46 V0)
set_option maxRecDepth 8192 in
set_option maxHeartbeats 2000000 in
theorem val1_1_main_v63 (V0 : Valuation τ sig (Elt F)) : val1_1 V0 (no_index (Proc.devRef .tc main_v63)) = res_main_v63 V0 := by
  unfold val1_1
  simp only [ops_part1_0, TRef.binary, TRef.nullary, TRef.ternary, TRef.unary, TRef.toBuf, TRef.ofBuf, cast_eq]
  after_results_simp
  simp only [val1_main_v20, val1_main_v48, val1_main_v47] <;> rfl
set_option maxRecDepth 8192 in
set_option maxHeartbeats 2000000 in
theorem val1_1_main_v65 (V0 : Valuation τ sig (Elt F)) : val1_1 V0 (no_index (Proc.devRef .tc main_v65)) = cmpi .slt (res_main_v63 V0) (broadcastInDim S2048 ![] bcast_S_S2048 (constantI S_ 32 0#32)) := by
  unfold val1_1
  simp only [ops_part1_0, TRef.binary, TRef.nullary, TRef.ternary, TRef.unary, TRef.toBuf, TRef.ofBuf, cast_eq]
  after_results_simp
  simp only [val1_main_v20, val1_main_v48, val1_main_v47] <;> rfl

/-- The device's buffer contents after @main's first 147 operations. -/
def val1_2 (V0 : Valuation τ sig (Elt F)) : Valuation τ sig (Elt F) := after ops_part1_1 (val1_1 V0)
/-- The buffers that window `ops_part1_1`'s operations write. -/
abbrev ops_part1_1_W : List (Ref sig .tc) := [main_c_16, main_v66, main_v67, main_v68, main_v69, main_v70, main_c_17, main_v71, main_v72, main_c_18, main_v73, main_v74, main_v75, main_v76, main_v77, main_v78, main_v79, main_v80, main_v81, main_v82, main_v83, main_cst_19, main_v84, main_cst_20, main_v85, main_v86, main_cst_21, main_v87, main_v88, main_cst_22]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
set_option maxRecDepth 8192 in
set_option maxHeartbeats 2000000 in
theorem val1_2_main_v70 (V0 : Valuation τ sig (Elt F)) : val1_2 V0 (no_index (Proc.devRef .tc main_v70)) = res_main_v70 V0 := by
  unfold val1_2
  simp only [ops_part1_1]
  after_results_simp
  simp only [val1_1_main_v63, val1_1_main_v65, val1_1_main_v20] <;> rfl
set_option maxRecDepth 8192 in
set_option maxHeartbeats 2000000 in
theorem val1_2_main_v83 (V0 : Valuation τ sig (Elt F)) : val1_2 V0 (no_index (Proc.devRef .tc main_v83)) = res_main_v83 V0 := by
  unfold val1_2
  simp only [ops_part1_1]
  after_results_simp
  simp only [val1_1_main_v63, val1_1_main_v46, val1_1_main_arg1] <;> rfl
set_option maxRecDepth 8192 in
set_option maxHeartbeats 2000000 in
theorem val1_2_main_v86 (V0 : Valuation τ sig (Elt F)) : val1_2 V0 (no_index (Proc.devRef .tc main_v86)) = cmpf .ogt (Host.reduceAdd (res_main_v83 V0) (constant S_ .f32 0x00000000#32) reducesTo_S4096x2048_S4096_d1 h_S_) (broadcastInDim S4096 ![] bcast_S_S4096 (constant S_ .f32 0x00000000#32)) := by
  unfold val1_2
  simp only [ops_part1_1]
  after_results_simp
  simp only [val1_1_main_v63, val1_1_main_v46, val1_1_main_arg1] <;> rfl
set_option maxRecDepth 8192 in
set_option maxHeartbeats 2000000 in
theorem val1_2_main_v88 (V0 : Valuation τ sig (Elt F)) : val1_2 V0 (no_index (Proc.devRef .tc main_v88)) = subf (broadcastInDim S4096x2048 ![] bcast_S_S4096x2048 (constant S_ .f32 0x3F800000#32)) (res_main_v83 V0) := by
  unfold val1_2
  simp only [ops_part1_1]
  after_results_simp
  simp only [val1_1_main_v63, val1_1_main_v46, val1_1_main_arg1] <;> rfl
set_option maxRecDepth 8192 in
set_option maxHeartbeats 2000000 in
theorem val1_2_main_cst_22 (V0 : Valuation τ sig (Elt F)) : val1_2 V0 (no_index (Proc.devRef .tc main_cst_22)) = constant S_ .f32 0x00000000#32 := by
  unfold val1_2
  simp only [ops_part1_1]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v89, main_cst_23, main_v90, main_v91]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_v70 (V0 : Valuation τ sig (Elt F)) : val2 V0 (no_index (Proc.devRef .tc main_v70)) = res_main_v70 V0 :=
  (val2_keep V0 main_v70 (by decide)).trans (val1_2_main_v70 V0)
theorem val2_main_v83 (V0 : Valuation τ sig (Elt F)) : val2 V0 (no_index (Proc.devRef .tc main_v83)) = res_main_v83 V0 :=
  (val2_keep V0 main_v83 (by decide)).trans (val1_2_main_v83 V0)
theorem val2_main_v86 (V0 : Valuation τ sig (Elt F)) : val2 V0 (no_index (Proc.devRef .tc main_v86)) = cmpf .ogt (Host.reduceAdd (res_main_v83 V0) (constant S_ .f32 0x00000000#32) reducesTo_S4096x2048_S4096_d1 h_S_) (broadcastInDim S4096 ![] bcast_S_S4096 (constant S_ .f32 0x00000000#32)) :=
  (val2_keep V0 main_v86 (by decide)).trans (val1_2_main_v86 V0)
set_option maxRecDepth 8192 in
theorem val2_main_v91 (V0 : Valuation τ sig (Elt F)) : val2 V0 (no_index (Proc.devRef .tc main_v91)) = cmpf .ogt (Host.reduceAdd (subf (broadcastInDim S4096x2048 ![] bcast_S_S4096x2048 (constant S_ .f32 0x3F800000#32)) (res_main_v83 V0)) (constant S_ .f32 0x00000000#32) reducesTo_S4096x2048_S4096_d1 h_S_) (broadcastInDim S4096 ![] bcast_S_S4096 (constant S_ .f32 0x00000000#32)) := by
  unfold val2
  simp only [ops_part1_2]
  after_results_simp
  simp only [val1_2_main_cst_22, val1_2_main_v88] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v92, main_cst_24, main_v93, main_cst_25, main_v94, main_v95, main_v96, main_v97, main_v98, main_v99, main_cst_26, main_v100, main_v101, main_v102, main_v103, main_v104, main_cst_27, main_v105, main_cst_28, main_call6_v0, main_call6_v1, main_v106, main_v107, main_cst_29, main_v108, main_cst_30, main_v109, main_v110, main_cst_31, main_call7_v0, main_call7_v1, main_v111, main_cst_32, main_v112, main_v113, main_v114]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
set_option maxRecDepth 8192 in
set_option maxHeartbeats 2000000 in
theorem val3_main_v114 (V0 : Valuation τ sig (Elt F)) : val3 V0 (no_index (Proc.devRef .tc main_v114)) = Host.divf (Host.negf (Host.reduceAdd (select (res_main_v92 V0) (Host.log (select (res_main_v92 V0) (Host.reduceAdd (mulf (Host.divf (res_main_v99 V0) (broadcastInDim S4096x2048 ![0, 1] bcast_S4096x1_S4096x2048_0_1 (broadcastInDim S4096x1 ![0] bcast_S4096_S4096x1_0 (Host.reduceAdd (res_main_v99 V0) (constant S_ .f32 0x00000000#32) reducesTo_S4096x2048_S4096_d1 h_S_)))) (res_main_v83 V0)) (constant S_ .f32 0x00000000#32) reducesTo_S4096x2048_S4096_d1 h_S_) (broadcastInDim S4096 ![] bcast_S_S4096 (id (constant S_ .f32 0x3F800000#32))))) (broadcastInDim S4096 ![] bcast_S_S4096 (id (constant S_ .f32 0x00000000#32)))) (constant S_ .f32 0x00000000#32) reducesTo_S4096_S_d0 h_S_)) (maximumf (Host.reduceAdd (uitofp .f32 (res_main_v92 V0)) (constant S_ .f32 0x00000000#32) reducesTo_S4096_S_d0 h_S_) (constant S_ .f32 0x3F800000#32)) := by
  unfold val3
  simp only [ops_part2, TRef.ternary, TRef.unary, TRef.toBuf, TRef.ofBuf, cast_eq]
  after_results_simp
  simp only [val2_main_v91, val2_main_v86, val2_main_v83, val2_main_v70] <;> rfl

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = Host.divf (Host.negf (Host.reduceAdd (select (res_main_v92 (launchContents m c)) (Host.log (select (res_main_v92 (launchContents m c)) (Host.reduceAdd (mulf (Host.divf (res_main_v99 (launchContents m c)) (broadcastInDim S4096x2048 ![0, 1] bcast_S4096x1_S4096x2048_0_1 (broadcastInDim S4096x1 ![0] bcast_S4096_S4096x1_0 (Host.reduceAdd (res_main_v99 (launchContents m c)) (constant S_ .f32 0x00000000#32) reducesTo_S4096x2048_S4096_d1 h_S_)))) (res_main_v83 (launchContents m c))) (constant S_ .f32 0x00000000#32) reducesTo_S4096x2048_S4096_d1 h_S_) (broadcastInDim S4096 ![] bcast_S_S4096 (id (constant S_ .f32 0x3F800000#32))))) (broadcastInDim S4096 ![] bcast_S_S4096 (id (constant S_ .f32 0x00000000#32)))) (constant S_ .f32 0x00000000#32) reducesTo_S4096_S_d0 h_S_)) (maximumf (Host.reduceAdd (uitofp .f32 (res_main_v92 (launchContents m c))) (constant S_ .f32 0x00000000#32) reducesTo_S4096_S_d0 h_S_) (constant S_ .f32 0x3F800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v114).trans ((congrFun (after_ops (launchContents m c)) (Proc.devRef .tc main_v114)).trans (val3_main_v114 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c)))⟩)
    (run_seq scopedRefs_eq scopedSems_eq defs main (fun _ => ops) main_eq (fun _ => ops_sub) m ρ fun _ => ops_fresh)

end Cert.ReferenceIdeal.Value

end
-- ==== Proof.KernelRun.lean ====
/- The run of the kernel's program: it ends with the result array at the contents the last stretch of host operations
   leaves, and with its arguments as they were. -/
module

public import proofs.«01_k».proof.Proof.Gen.KernelIdeal.Frame
public import Idealize.ShloMosaic.Adequacy
public import Idealize.ShloMosaic.Init

@[expose] public section

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found through the types of what is still unknown
set_option backward.isDefEq.respectTransparency.types false in
/-- From any launch memory with all counters at zero the program terminates, and on every device the result array
    holds what the last stretch of host operations leaves in it (`W6`), and the three arguments are as launched. -/
theorem run_value : θ_run defs (onTc (τ := τ) (main (F := F))) ⟨m, fun _ => 0, ρ⟩ (fun r => ∀ c : Dev nD,
      r.2.mem ((c.tc : Thread nD τ).loc main_v0) = W6 m ρ c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelRun

end
-- ==== Proof.Order.lean ====
/-
  The order in which a stable sort lists the entries of a vector, greatest first and, among equal entries, the earlier first.
  `listed x p` is the entry listed at place `p`. A place is also the number of entries listed before it (`card_ahead`), and a sum over the first
  places is a sum over the entries whose place is early (`sum_listed`).
-/
module

public import Idealize.ShloMosaic.PureOps
public import Idealize.ShloMosaic.Lib.SortFacts
public import Mathlib.Data.EReal.Operations
public import Mathlib.Algebra.BigOperators.Fin

@[expose] public section

noncomputable section

namespace Cert.Order

open Idealize.ShloMosaic

variable {n : Nat}

/-- Entry `p` is strictly greater than entry `q`. -/
def greaterFirst (x : Fin n → EReal) (p q : Fin n) : Bool := decide (x q < x p)

/-- Entry `p` is listed before entry `q`: it is greater, or equal and earlier. -/
def Ahead (x : Fin n → EReal) (p q : Fin n) : Prop := x q < x p ∨ (x p = x q ∧ p < q)

/-- The order is transitive. -/
theorem Ahead.trans {x : Fin n → EReal} {p q r : Fin n} (h : Ahead x p q) (h' : Ahead x q r) : Ahead x p r := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

/-- No entry is ahead of itself. -/
theorem Ahead.irrefl {x : Fin n → EReal} {p : Fin n} : ¬ Ahead x p p := by
  rintro (h | ⟨_, h⟩)
  · exact lt_irrefl _ h
  · exact lt_irrefl _ h

/-- Putting an entry that is earlier than all the others into their list keeps the list in order. -/
theorem pairwise_insert (x : Fin n → EReal) (a : Fin n) : ∀ l : List (Fin n), l.Pairwise (Ahead x) → (∀ b ∈ l, a < b) →
    (insertBefore (greaterFirst x) a l).Pairwise (Ahead x)
  | [], _, _ => List.pairwise_singleton _ _
  | b :: l, hl, ha => by
    rw [List.pairwise_cons] at hl
    unfold insertBefore
    split
    · rename_i h
      refine List.pairwise_cons.mpr ⟨fun c hc => ?_, pairwise_insert x a l hl.2 fun c hc => ha c (List.mem_cons_of_mem b hc)⟩
      rcases List.mem_cons.mp ((perm_insertBefore _ a l).mem_iff.mp hc) with rfl | hc'
      · exact Or.inl (of_decide_eq_true h)
      · exact hl.1 c hc'
    · rename_i h
      have hb : x b ≤ x a := not_lt.mp fun h' => h (decide_eq_true h')
      have hab : Ahead x a b := by
        rcases hb.lt_or_eq with h' | h'
        · exact Or.inl h'
        · exact Or.inr ⟨h'.symm, ha b List.mem_cons_self⟩
      refine List.pairwise_cons.mpr ⟨fun c hc => ?_, List.pairwise_cons.mpr hl⟩
      rcases List.mem_cons.mp hc with rfl | hc'
      · exact hab
      · exact hab.trans (hl.1 c hc')

/-- Of a sorted list each entry is ahead of those behind it. -/
theorem pairwise_sort (x : Fin n → EReal) : ∀ l : List (Fin n), l.Pairwise (· < ·) →
    (stableSort (greaterFirst x) l).Pairwise (Ahead x)
  | [], _ => List.Pairwise.nil
  | a :: l, h => by
    rw [List.pairwise_cons] at h
    unfold stableSort
    exact pairwise_insert x a _ (pairwise_sort x l h.2) fun b hb => h.1 b ((perm_stableSort _ l).mem_iff.mp hb)

/-- The entry at place `p` of the list. -/
def listed (x : Fin n → EReal) : Fin n → Fin n := sortedFrom (greaterFirst x)

/-- What is listed before is ahead. -/
theorem ahead_listed (x : Fin n → EReal) {p q : Fin n} (h : p < q) : Ahead x (listed x p) (listed x q) := by
  have hp := List.pairwise_iff_get.mp (pairwise_sort x (List.finRange n) (List.pairwise_lt_finRange n))
  exact hp (p.cast (length_sortPositions n (greaterFirst x)).symm) (q.cast (length_sortPositions n (greaterFirst x)).symm) h

/-- The list holds every entry once. -/
def place (x : Fin n → EReal) : Fin n ≃ Fin n :=
  (Equiv.ofBijective (listed x) ⟨sortedFrom_injective _, sortedFrom_surjective _⟩).symm

/-- The place of the entry listed at place `p` is `p`. -/
theorem place_listed (x : Fin n → EReal) (p : Fin n) : place x (listed x p) = p :=
  (Equiv.ofBijective (listed x) ⟨sortedFrom_injective _, sortedFrom_surjective _⟩).symm_apply_apply p

/-- The entry listed at an entry's place is that entry. -/
theorem listed_place (x : Fin n → EReal) (i : Fin n) : listed x (place x i) = i :=
  (Equiv.ofBijective (listed x) ⟨sortedFrom_injective _, sortedFrom_surjective _⟩).apply_symm_apply i

/-- One entry is listed before another when its place is before the other's. -/
theorem ahead_iff (x : Fin n → EReal) (i j : Fin n) : Ahead x i j ↔ place x i < place x j := by
  constructor
  · intro h
    rcases lt_trichotomy (place x i) (place x j) with h' | h' | h'
    · exact h'
    · rw [(place x).injective h'] at h
      exact absurd h Ahead.irrefl
    · have := ahead_listed x h'
      rw [listed_place, listed_place] at this
      exact absurd (h.trans this) Ahead.irrefl
  · intro h
    have := ahead_listed x h
    rwa [listed_place, listed_place] at this

instance (x : Fin n → EReal) (i j : Fin n) : Decidable (Ahead x i j) := by unfold Ahead; infer_instance

/-- As many entries are listed before an entry as its place says. -/
theorem card_ahead (x : Fin n → EReal) (j : Fin n) : (Finset.univ.filter fun i => Ahead x i j).card = (place x j).val := by
  rw [← Fin.card_Iio (place x j)]
  refine Finset.card_bij (fun i _ => place x i) (fun i hi => ?_) (fun _ _ _ _ h => (place x).injective h) fun p hp => ?_
  · exact Finset.mem_Iio.mpr ((ahead_iff x i j).mp (Finset.mem_filter.mp hi).2)
  · refine ⟨listed x p, Finset.mem_filter.mpr ⟨Finset.mem_univ _, (ahead_iff x _ j).mpr ?_⟩, place_listed x p⟩
    rw [place_listed]
    exact Finset.mem_Iio.mp hp

/-- Counting, entry by entry, one for each greater entry and one for each equal earlier entry gives the place. -/
theorem sum_ahead (x : Fin n → EReal) (j : Fin n) :
    (∑ i : Fin n, ((if x j < x i then (1 : EReal) else 0) + (if x i = x j ∧ i < j then (1 : EReal) else 0)))
      = ((place x j).val : EReal) := by
  rw [← card_ahead x j, Finset.card_filter]
  push_cast
  refine Finset.sum_congr rfl fun i _ => ?_
  by_cases h : x j < x i
  · have h' : ¬ (x i = x j ∧ i < j) := fun e => (ne_of_gt h) e.1
    have ha : Ahead x i j := Or.inl h
    rw [if_pos h, if_neg h', if_pos ha, add_zero]
  · by_cases h' : x i = x j ∧ i < j
    · have ha : Ahead x i j := Or.inr h'
      rw [if_neg h, if_pos h', if_pos ha, zero_add]
    · have ha : ¬ Ahead x i j := by
        rintro (a | a)
        exacts [h a, h' a]
      rw [if_neg h, if_neg h', if_neg ha, add_zero]

/-- A sum over the first `k` places is the sum over the entries whose place is one of them. -/
theorem sum_listed {M : Type} [AddCommMonoid M] (x : Fin n → EReal) {k : Nat} (hk : k ≤ n) (f : Fin n → M) :
    (∑ p : Fin k, f (listed x (p.castLE hk))) = ∑ j : Fin n, if (place x j).val < k then f j else 0 := by
  rw [← Finset.sum_filter]
  refine Finset.sum_bij (fun p _ => listed x (p.castLE hk)) (fun p _ => ?_) (fun p _ q _ h => ?_) (fun j hj => ?_) fun _ _ => rfl
  · refine Finset.mem_filter.mpr ⟨Finset.mem_univ _, ?_⟩
    rw [place_listed]
    exact p.isLt
  · have := congrArg (place x) h
    rw [place_listed, place_listed] at this
    exact Fin.castLE_injective hk this
  · have hj' := (Finset.mem_filter.mp hj).2
    refine ⟨⟨(place x j).val, hj'⟩, Finset.mem_univ _, ?_⟩
    exact listed_place x j

end Cert.Order

end
-- ==== Proof.Rounds.lean ====
/-
  Taking the greatest entry of a vector and striking it out, again and again, lists the entries in the order of Order.lean.
  In a round the greatest value is found (`greatest`), then the first entry that has it (`first`), and that entry is set to −∞ (`struck`).
-/
module

public import proofs.«01_k».proof.Proof.Order

@[expose] public section

noncomputable section

namespace Cert.Order

variable {n : Nat}

/-- The greatest value of a vector. -/
def greatest (w : Fin n → EReal) : EReal := Finset.univ.fold max ⊥ w

/-- No value is above the greatest. -/
theorem le_greatest (w : Fin n → EReal) (i : Fin n) : w i ≤ greatest w :=
  Finset.le_sup (f := w) (Finset.mem_univ i)

/-- A bound of all values bounds the greatest. -/
theorem greatest_le (w : Fin n → EReal) (b : EReal) (h : ∀ i, w i ≤ b) : greatest w ≤ b :=
  Finset.sup_le fun i _ => h i

/-- A value that none is above is the greatest. -/
theorem greatest_eq (w : Fin n → EReal) (i : Fin n) (h : ∀ k, w k ≤ w i) : greatest w = w i :=
  le_antisymm (greatest_le w _ h) (le_greatest w i)

/-- Some entry has the greatest value. -/
theorem exists_greatest [NeZero n] (w : Fin n → EReal) : ∃ i, w i = greatest w := by
  obtain ⟨i, _, hi⟩ := Finset.exists_mem_eq_sup (s := (Finset.univ : Finset (Fin n))) ⟨0, Finset.mem_univ _⟩ w
  exact ⟨i, hi.symm⟩

/-- Entry `i` has the greatest value, and none before it has. -/
def IsFirst (w : Fin n → EReal) (i : Fin n) : Prop := w i = greatest w ∧ ∀ k, w k = greatest w → i ≤ k

/-- Some entry is the first that has it. -/
theorem exists_first [NeZero n] (w : Fin n → EReal) : ∃ i, IsFirst w i := by
  obtain ⟨i, hi⟩ := exists_greatest w
  have hne : (Finset.univ.filter fun k => w k = greatest w).Nonempty := ⟨i, Finset.mem_filter.mpr ⟨Finset.mem_univ _, hi⟩⟩
  refine ⟨(Finset.univ.filter fun k => w k = greatest w).min' hne, (Finset.mem_filter.mp (Finset.min'_mem _ hne)).2, fun k hk => ?_⟩
  exact Finset.min'_le (Finset.univ.filter fun k => w k = greatest w) k (Finset.mem_filter.mpr ⟨Finset.mem_univ _, hk⟩)

/-- Only one entry is. -/
theorem IsFirst.unique {w : Fin n → EReal} {i j : Fin n} (hi : IsFirst w i) (hj : IsFirst w j) : i = j :=
  le_antisymm (hi.2 j hj.1) (hj.2 i hi.1)

/-- The first entry that has the greatest value. -/
def first [NeZero n] (w : Fin n → EReal) : Fin n := (exists_first w).choose

/-- The first greatest entry has the greatest value, and none before it has. -/
theorem first_spec [NeZero n] (w : Fin n → EReal) : IsFirst w (first w) := (exists_first w).choose_spec

/-- An entry like that is the first greatest entry. -/
theorem first_eq [NeZero n] {w : Fin n → EReal} {i : Fin n} (h : IsFirst w i) : first w = i := (first_spec w).unique h

/-- The vector with the first greatest entry set to −∞. -/
def strike [NeZero n] (w : Fin n → EReal) : Fin n → EReal := fun k => if k = first w then ⊥ else w k

/-- The vector after `r` rounds. -/
def struck [NeZero n] (w : Fin n → EReal) : Nat → Fin n → EReal
  | 0 => w
  | r + 1 => strike (struck w r)

/-- What the entries that are not yet listed are greatest at, when the listed ones stand at −∞. -/
theorem greatest_rest (w : Fin n → EReal) (r : Fin n) :
    greatest (fun k => if (place w k).val < r.val then ⊥ else w k) = w (listed w r) := by
  have h0 : (fun k => if (place w k).val < r.val then ⊥ else w k) (listed w r) = w (listed w r) := by
    show (if _ then _ else _) = _
    rw [if_neg (by rw [place_listed]; exact lt_irrefl _)]
  rw [← h0]
  refine greatest_eq _ _ fun k => le_of_le_of_eq ?_ h0.symm
  show (if _ then _ else _) ≤ _
  split
  · exact bot_le
  · rename_i h
    rcases (not_lt.mp h).lt_or_eq with h' | h'
    · have : Ahead w (listed w r) k := (ahead_iff w _ _).mpr (by rw [place_listed]; exact h')
      rcases this with h'' | ⟨h'', _⟩
      · exact h''.le
      · exact h''.ge
    · have : k = listed w r := by
        rw [← listed_place w k]; exact congrArg (listed w) (Fin.ext h'.symm)
      rw [this]

/-- When the entries listed before are at minus infinity, the next one listed is the first greatest, unless it is at minus infinity itself. -/
theorem first_rest (w : Fin n → EReal) (r : Fin n) (hr : w (listed w r) ≠ ⊥) :
    IsFirst (fun k => if (place w k).val < r.val then ⊥ else w k) (listed w r) := by
  refine ⟨?_, fun k hk => ?_⟩
  · rw [greatest_rest]
    show (if _ then _ else _) = _
    rw [if_neg (by rw [place_listed]; exact lt_irrefl _)]
  · rw [greatest_rest] at hk
    by_cases h : (place w k).val < r.val
    · exact absurd ((if_pos h).symm.trans hk).symm hr
    · have hk' : w k = w (listed w r) := (if_neg h).symm.trans hk
      rcases (not_lt.mp h).lt_or_eq with h' | h'
      · have : Ahead w (listed w r) k := (ahead_iff w _ _).mpr (by rw [place_listed]; exact h')
        rcases this with h'' | ⟨_, h''⟩
        · exact absurd hk' (ne_of_lt h'')
        · exact h''.le
      · have : k = listed w r := by
          rw [← listed_place w k]; exact congrArg (listed w) (Fin.ext h'.symm)
        exact this.ge

/-- After `r` rounds the first `r` entries of the list stand at −∞ and the others as they were. -/
theorem struck_eq [NeZero n] (w : Fin n → EReal) : ∀ r : Nat, r ≤ n →
    struck w r = fun k => if (place w k).val < r then ⊥ else w k
  | 0, _ => by funext k; exact (if_neg (Nat.not_lt_zero _)).symm
  | r + 1, hr => by
    have ih := struck_eq w r (by omega)
    funext k
    show (if k = first (struck w r) then ⊥ else struck w r k) = (if (place w k).val < r + 1 then ⊥ else w k)
    rw [show struck w r k = (if (place w k).val < r then ⊥ else w k) from congrFun ih k, ih]
    by_cases hb : w (listed w ⟨r, hr⟩) = ⊥
    · have hall : ∀ k, (if (place w k).val < r then ⊥ else w k) = ⊥ := fun k => by
        have h1 := le_greatest (fun k => if (place w k).val < (⟨r, hr⟩ : Fin n).val then ⊥ else w k) k
        rw [greatest_rest, hb] at h1
        exact le_bot_iff.mp h1
      have hk := hall k
      rw [hk]
      simp only [ite_self]
      split
      · rfl
      · rename_i h
        rw [if_neg (by omega)] at hk
        exact hk.symm
    · rw [first_eq (first_rest w ⟨r, hr⟩ hb)]
      by_cases hk : k = listed w ⟨r, hr⟩
      · rw [if_pos hk, if_pos (by rw [hk, place_listed]; exact Nat.lt_succ_self r)]
      · rw [if_neg hk]
        have hne : (place w k).val ≠ r := fun e => hk (by
          rw [← listed_place w k]; exact congrArg (listed w) (Fin.ext e))
        by_cases h : (place w k).val < r
        · rw [if_pos h, if_pos (by omega)]
        · rw [if_neg h, if_neg (by omega)]

/-- The greatest value of round `r` is the value listed at place `r`. -/
theorem greatest_struck [NeZero n] (w : Fin n → EReal) (r : Fin n) : greatest (struck w r.val) = w (listed w r) := by
  rw [struck_eq w r.val r.isLt.le, greatest_rest]

/-- The entry struck in round `r` is the one listed at place `r`, when its value is not −∞. -/
theorem first_struck [NeZero n] (w : Fin n → EReal) (r : Fin n) (h : w (listed w r) ≠ ⊥) :
    first (struck w r.val) = listed w r := by
  rw [struck_eq w r.val r.isLt.le]
  exact first_eq (first_rest w r h)

end Cert.Order

end
-- ==== Proof.Words.lean ====
/-
  Facts about 32-bit words that stand for small natural numbers: comparisons, quotient and remainder by 64 as the kernel writes them, and the
  smallest of a family of words.
-/
module

public import Idealize.ShloMosaic.PureOps
public import Idealize.ShloMosaic.PureOps.Reduce
public import Idealize.ShloMosaic.Lib.WordArith

@[expose] public section

namespace Cert.Words

open Idealize.ShloMosaic

/-- A small number as a word, read as a signed number. -/
theorem toInt_ofNat {n : Nat} (h : n < 2 ^ 31) : (BitVec.ofNat 32 n).toInt = n := by
  rw [BitVec.toInt_eq_toNat_of_lt (by rw [BitVec.toNat_ofNat]; omega), BitVec.toNat_ofNat, Nat.mod_eq_of_lt (by omega)]

/-- A number that fits a word, read back. -/
theorem toNat_ofNat {n : Nat} (h : n < 2 ^ 32) : (BitVec.ofNat 32 n).toNat = n := by
  rw [BitVec.toNat_ofNat, Nat.mod_eq_of_lt h]

/-- Two numbers that fit are equal when their words are. -/
theorem ofNat_inj {m n : Nat} (hm : m < 2 ^ 32) (hn : n < 2 ^ 32) (h : BitVec.ofNat 32 m = BitVec.ofNat 32 n) : m = n := by
  have := congrArg BitVec.toNat h
  rwa [toNat_ofNat hm, toNat_ofNat hn] at this

/-- The sign bit of a small number is clear. -/
theorem msb_ofNat {n : Nat} (h : n < 2 ^ 31) : (BitVec.ofNat 32 n).msb = false := by
  rw [BitVec.msb_eq_decide, toNat_ofNat (by omega)]
  exact decide_eq_false (by omega)

/-- A division by 64 does not overflow. -/
theorem corner64 (x : BitVec 32) : ¬ IntOp.SDivCorner x 64#32 := by
  unfold IntOp.SDivCorner
  rintro (h | ⟨_, h⟩) <;> exact absurd h (by decide)

/-- The signed quotient by 64 of a small number. -/
theorem divsi64 (u : ArithUnit) {n : Nat} (h : n < 2 ^ 31) : IntOp.divsi u (BitVec.ofNat 32 n) 64#32 = BitVec.ofNat 32 (n / 64) := by
  unfold IntOp.divsi
  rw [if_neg (corner64 _), BitVec.sdiv_eq, msb_ofNat h]
  refine BitVec.eq_of_toNat_eq ?_
  show (BitVec.ofNat 32 n / 64#32).toNat = _
  rw [BitVec.toNat_udiv, toNat_ofNat (by omega), toNat_ofNat (by omega), toNat_ofNat (by omega)]

/-- The signed remainder by 64 of a small number. -/
theorem remsi64 (u : ArithUnit) {n : Nat} (h : n < 2 ^ 31) : IntOp.remsi u (BitVec.ofNat 32 n) 64#32 = BitVec.ofNat 32 (n % 64) := by
  unfold IntOp.remsi
  rw [if_neg (corner64 _), BitVec.srem_eq, msb_ofNat h]
  refine BitVec.eq_of_toNat_eq ?_
  show (BitVec.ofNat 32 n % 64#32).toNat = _
  rw [BitVec.toNat_umod, toNat_ofNat (by omega), toNat_ofNat (by omega), toNat_ofNat (by omega)]

/-- A word that stands for a natural number is not negative. -/
theorem slt_zero {n : Nat} (h : n < 2 ^ 31) : (BitVec.ofNat 32 n).slt 0#32 = false := by
  rw [BitVec.slt_eq_decide, toInt_ofNat h]
  exact decide_eq_false (by simp)

/-- The smallest of a family of words is its least member. -/
theorem fold_minsi {n : Nat} (f : Fin n → BitVec 32) (k : Fin n) (hk : ∀ i, (f k).toInt ≤ (f i).toInt) :
    Finset.univ.fold IntOp.minsi 2147483647#32 f = f k := by
  have hmin : ∀ x y : BitVec 32, (IntOp.minsi x y = x ∨ IntOp.minsi x y = y)
      ∧ (IntOp.minsi x y).toInt ≤ x.toInt ∧ (IntOp.minsi x y).toInt ≤ y.toInt := fun x y => by
    unfold IntOp.minsi
    by_cases h : x.toInt < y.toInt
    · rw [if_pos (by rw [BitVec.slt_eq_decide]; exact decide_eq_true h)]
      exact ⟨Or.inl rfl, le_refl _, h.le⟩
    · rw [if_neg (by rw [BitVec.slt_eq_decide]; simpa using h)]
      exact ⟨Or.inr rfl, not_lt.mp h, le_refl _⟩
  have key : ∀ s : Finset (Fin n), (s.fold IntOp.minsi 2147483647#32 f = 2147483647#32 ∨ ∃ j ∈ s, s.fold IntOp.minsi 2147483647#32 f = f j)
      ∧ ∀ j ∈ s, (s.fold IntOp.minsi 2147483647#32 f).toInt ≤ (f j).toInt := fun s => by
    induction s using Finset.induction_on with
    | empty => exact ⟨Or.inl rfl, fun j hj => absurd hj (Finset.notMem_empty j)⟩
    | insert a s ha ih =>
      rw [Finset.fold_insert ha]
      obtain ⟨h1, h2, h3⟩ := hmin (f a) (s.fold IntOp.minsi 2147483647#32 f)
      refine ⟨?_, fun j hj => ?_⟩
      · rcases h1 with h | h
        · exact Or.inr ⟨a, Finset.mem_insert_self a s, h⟩
        · rcases ih.1 with h' | ⟨j, hj, h'⟩
          · exact Or.inl (h.trans h')
          · exact Or.inr ⟨j, Finset.mem_insert_of_mem hj, h.trans h'⟩
      · rcases Finset.mem_insert.mp hj with rfl | hj
        · exact h2
        · exact h3.trans (ih.2 j hj)
  obtain ⟨h1, h2⟩ := key Finset.univ
  have hle := h2 k (Finset.mem_univ k)
  refine BitVec.eq_of_toInt_eq (le_antisymm hle ?_)
  rcases h1 with h | ⟨j, _, h⟩
  · rw [h]
    have := BitVec.toInt_lt (x := f k)
    have e : (2147483647#32 : BitVec 32).toInt + 1 = 2 ^ (32 - 1) := by decide
    exact Int.le_of_lt_add_one (e ▸ this)
  · rw [h]; exact hk j

/-- The printed remainder by 64 of a word that stands for a natural number. -/
theorem mod64 {n : Nat} (h : n < 2 ^ 31) :
    Scalar.select
      (IntOp.andi
        (IntOp.xori
          (IntOp.cmpi .slt (IntOp.remsi .vector (BitVec.ofNat 32 n) (Scalar.select (Scalar.cmpi .eq 64#32 0#32) 1#32 64#32)) 0#32)
          (Scalar.cmpi .slt (Scalar.select (Scalar.cmpi .eq 64#32 0#32) 1#32 64#32) 0#32))
        (IntOp.cmpi .ne (IntOp.remsi .vector (BitVec.ofNat 32 n) (Scalar.select (Scalar.cmpi .eq 64#32 0#32) 1#32 64#32)) 0#32))
      (IntOp.addi (IntOp.remsi .vector (BitVec.ofNat 32 n) (Scalar.select (Scalar.cmpi .eq 64#32 0#32) 1#32 64#32))
        (Scalar.select (Scalar.cmpi .eq 64#32 0#32) 1#32 64#32))
      (IntOp.remsi .vector (BitVec.ofNat 32 n) (Scalar.select (Scalar.cmpi .eq 64#32 0#32) 1#32 64#32))
      = BitVec.ofNat 32 (n % 64) := by
  have e : Scalar.select (Scalar.cmpi .eq 64#32 0#32) 1#32 64#32 = 64#32 := by decide
  rw [e, remsi64 _ h]
  have h0 : IntOp.cmpi .slt (BitVec.ofNat 32 (n % 64)) 0#32 = 0#1 := by
    show BitVec.ofBool ((BitVec.ofNat 32 (n % 64)).slt 0#32) = 0#1
    rw [slt_zero (by omega)]; rfl
  rw [h0, show IntOp.xori 0#1 (Scalar.cmpi .slt 64#32 0#32) = 0#1 by decide]
  unfold Scalar.select
  rw [if_neg]
  show ¬ (0#1 &&& _ = 1#1)
  rw [BitVec.zero_and]
  decide

/-- The printed floor division by 64 of a word that stands for a natural number. -/
theorem div64 {n : Nat} (h : n < 2 ^ 31) :
    Scalar.select
      (IntOp.andi
        (IntOp.cmpi .ne
          (IntOp.subi (BitVec.setWidth 32 (IntOp.cmpi .sgt (BitVec.ofNat 32 n) 0#32))
            (BitVec.setWidth 32 (IntOp.cmpi .slt (BitVec.ofNat 32 n) 0#32)))
          (Scalar.subi (Scalar.extui (Scalar.cmpi .sgt 64#32 0#32)) (Scalar.extui (Scalar.cmpi .slt 64#32 0#32))))
        (IntOp.cmpi .ne (IntOp.remsi .vector (BitVec.ofNat 32 n) 64#32) 0#32))
      (IntOp.subi (IntOp.divsi .vector (BitVec.ofNat 32 n) 64#32) 1#32)
      (IntOp.divsi .vector (BitVec.ofNat 32 n) 64#32)
      = BitVec.ofNat 32 (n / 64) := by
  rw [remsi64 _ h, divsi64 _ h]
  unfold Scalar.select
  rw [if_neg]
  have h0 : IntOp.cmpi .slt (BitVec.ofNat 32 n) 0#32 = 0#1 := by
    show BitVec.ofBool ((BitVec.ofNat 32 n).slt 0#32) = 0#1
    rw [slt_zero h]; rfl
  rcases Nat.eq_zero_or_pos n with rfl | hp
  · decide
  · have h1 : IntOp.cmpi .sgt (BitVec.ofNat 32 n) 0#32 = 1#1 := by
      show BitVec.ofBool ((0#32).slt (BitVec.ofNat 32 n)) = 1#1
      rw [BitVec.slt_eq_decide, toInt_ofNat h, decide_eq_true (by simpa using hp)]
      rfl
    rw [h0, h1]
    rw [show IntOp.cmpi .ne (IntOp.subi (BitVec.setWidth 32 1#1) (BitVec.setWidth 32 0#1))
      (Scalar.subi (Scalar.extui (Scalar.cmpi .sgt 64#32 0#32)) (Scalar.extui (Scalar.cmpi .slt 64#32 0#32))) = 0#1 by decide]
    show ¬ (0#1 &&& _ = 1#1)
    rw [BitVec.zero_and]
    decide

/-- A selection by whether two words are equal. -/
theorem select_eq {α : Type} (x y : BitVec 32) (a b : α) :
    Scalar.select (IntOp.cmpi .eq x y) a b = if x = y then a else b := by
  show (if BitVec.ofBool (x == y) = 1#1 then a else b) = _
  by_cases h : x = y
  · rw [if_pos h, if_pos (by rw [beq_iff_eq.mpr h]; rfl)]
  · rw [if_neg h, if_neg (by rw [beq_eq_false_iff_ne.mpr h]; decide)]

end Cert.Words

end
-- ==== Proof.Pass1Rounds.lean ====
/-
  The rounds the first pass takes over a block of 256 columns, as functions of a block: the columns' greatest values (`peak`), the smallest key
  among the entries that have it (`pick`), and the block with one row of each column set to −∞ (`strikeRow`).
-/
module

public import proofs.«01_k».proof.Proof.Rounds
public import proofs.«01_k».proof.Proof.Words
public import proofs.«01_k».proof.Proof.Gen.KernelIdeal.Frame
public import Idealize.ShloMosaic.Lib.Pointwise

@[expose] public section

set_option maxRecDepth 16384

noncomputable section

namespace Cert.Pass1

open Idealize.ShloMosaic Cert.KernelIdeal Cert.KernelIdeal.Gen Cert.Order

/-- Column `c` of a block. -/
def col (w : FVec Ideal S4096x256 .f32) (c : Fin 256) : Fin 4096 → EReal := fun i => w (ix2 i c)

/-- The word −∞ denotes the least extended real. -/
theorem ofBits_negInf : Ideal.ofBits .f32 0xFF800000#32 = ⊥ := by
  simp [Ideal.ofBits, Ideal.ieee]

/-- The columns' greatest values, as one row. -/
def peak (w : FVec Ideal S4096x256 .f32) : FVec Ideal S1x256 .f32 :=
  shapeCast S1x256 (multiReduction .maximumf [0] S256 w 0xFF800000#32 reduces_S4096x256_S256 (.inl rfl) rfl) shapeCasts_S256_S1x256

/-- The maximum along a column. -/
theorem peak_apply (w : FVec Ideal S4096x256 .f32) (c : Fin 256) : peak w (ix2 0 c) = greatest (col w c) := by
  pointwise [peak]
  rw [ofBits_negInf]
  rfl

/-- The smallest key among the entries equal to their column's greatest value, as one row. -/
def pick (key : IVec S4096x256 32) (w : FVec Ideal S4096x256 .f32) : IVec S1x256 32 :=
  shapeCast S1x256 (multiReductionI .minsi [0] S256
    (select (cmpf .oeq w (broadcastTo S4096x256 (peak w) broadcasts_S1x256_S4096x256)) key (broadcast S4096x256 1073741824#32))
    2147483647#32 reduces_S4096x256_S256 rfl) shapeCasts_S256_S1x256

/-- The key picked is the least of the keys at the maximum. -/
theorem pick_fold (key : IVec S4096x256 32) (w : FVec Ideal S4096x256 .f32) (c : Fin 256) :
    pick key w (ix2 0 c)
      = Finset.univ.fold IntOp.minsi 2147483647#32 (fun i : Fin 4096 =>
          if col w c i = greatest (col w c) then key (ix2 i c) else 1073741824#32) := by
  pointwise [pick, peak_apply]
  rfl

/-- The block with the row named for each column set to −∞. -/
def strikeRow (idx : IVec S1x256 32) (w : FVec Ideal S4096x256 .f32) : FVec Ideal S4096x256 .f32 :=
  select (cmpi .eq (iota .tc S4096x256 32 [0] iota_S4096x256_d0_w32) (broadcastTo S4096x256 idx broadcasts_S1x256_S4096x256))
    (broadcast S4096x256 (Scalar.ofBits .f32 0xFF800000#32)) w

/-- Striking out a row sets its entry to minus infinity. -/
theorem strikeRow_apply (idx : IVec S1x256 32) (w : FVec Ideal S4096x256 .f32) (i : Fin 4096) (c : Fin 256) :
    strikeRow idx w (ix2 i c) = if BitVec.ofNat 32 i.val = idx (ix2 0 c) then ⊥ else w (ix2 i c) := by
  pointwise [strikeRow]
  rw [ofBits_negInf, Words.select_eq]

/-- The printed remainder by 64. -/
def modK (kk : IVec S1x256 32) : IVec S1x256 32 := k0_pay7 kk 64#32 (Scalar.cmpi .eq 64#32 0#32) 1#32

/-- The printed floor division by 64. -/
def divK (kk : IVec S1x256 32) : IVec S1x256 32 :=
  select (andi (cmpi .ne (subi (extui 32 (cmpi .sgt kk (broadcast S1x256 0#32)) natLt_1_32) (extui 32 (cmpi .slt kk (broadcast S1x256 0#32)) natLt_1_32))
      (broadcast S1x256 (Scalar.subi (Scalar.extui (Scalar.cmpi .sgt 64#32 0#32)) (Scalar.extui (Scalar.cmpi .slt 64#32 0#32)))))
    (cmpi .ne (remsi kk (broadcast S1x256 64#32)) (broadcast S1x256 0#32)))
    (subi (divsi kk (broadcast S1x256 64#32)) (broadcast S1x256 1#32)) (divsi kk (broadcast S1x256 64#32))

/-- The remainder by 64 of a key. -/
theorem modK_apply (kk : IVec S1x256 32) (c : Fin 256) (n : Nat) (hn : n < 2 ^ 31) (h : kk (ix2 0 c) = BitVec.ofNat 32 n) :
    modK kk (ix2 0 c) = BitVec.ofNat 32 (n % 64) := by
  pointwise [modK, k0_pay7]
  rw [h]
  exact Words.mod64 hn

/-- The quotient by 64 of a key. -/
theorem divK_apply (kk : IVec S1x256 32) (c : Fin 256) (n : Nat) (hn : n < 2 ^ 31) (h : kk (ix2 0 c) = BitVec.ofNat 32 n) :
    divK kk (ix2 0 c) = BitVec.ofNat 32 (n / 64) := by
  pointwise [divK]
  rw [h]
  exact Words.div64 hn

/-- Where the keys grow with the row, the smallest key among the entries equal to the greatest value is the key of the first of them. -/
theorem pick_apply (key : IVec S4096x256 32) (w : FVec Ideal S4096x256 .f32) (c : Fin 256) (kn : Fin 4096 → Nat) (hb : ∀ i, kn i ≤ 1073741824)
    (hm : ∀ i j, i ≤ j → kn i ≤ kn j) (hk : ∀ i, key (ix2 i c) = BitVec.ofNat 32 (kn i)) :
    pick key w (ix2 0 c) = BitVec.ofNat 32 (kn (first (col w c))) := by
  obtain ⟨hf, hmin⟩ := first_spec (col w c)
  have hb' : ∀ i, kn i < 2 ^ 31 := fun i => lt_of_le_of_lt (hb i) (by omega)
  rw [pick_fold, Words.fold_minsi _ (first (col w c))]
  · rw [if_pos hf, hk]
  · intro i
    rw [if_pos hf, hk, Words.toInt_ofNat (hb' _)]
    by_cases h : col w c i = greatest (col w c)
    · rw [if_pos h, hk, Words.toInt_ofNat (hb' _)]
      exact_mod_cast hm _ _ (hmin i h)
    · rw [if_neg h]
      have := hb (first (col w c))
      show _ ≤ ((1073741824 : Nat) : Int)
      exact_mod_cast this

/-- Striking the row of the first greatest entry, one column at a time. -/
theorem col_strikeRow (idx : IVec S1x256 32) (w : FVec Ideal S4096x256 .f32) (c : Fin 256)
    (h : idx (ix2 0 c) = BitVec.ofNat 32 (first (col w c)).val) : col (strikeRow idx w) c = strike (col w c) := by
  funext i
  show strikeRow idx w (ix2 i c) = strike (col w c) i
  rw [strikeRow_apply, h]
  unfold strike
  by_cases e : i = first (col w c)
  · rw [if_pos (by rw [← e]), if_pos e]
  · rw [if_neg (fun h' => e (Fin.ext (Words.ofNat_inj (by omega) (by omega) h'))), if_neg e]
    rfl

end Cert.Pass1

end
-- ==== Proof.Mode.lean ====
/-
  The most frequent of five labels, the smallest of them where several are as frequent: the two programs give each label the score
  65 · (how often it occurs) + (64 − label) and take a label with the greatest score. Labels with equal scores are equal (`IsMode.unique`).
  The kernel reads the winner off by maxima (`modeK_eq`).
-/
module

public import proofs.«01_k».proof.Proof.Words
public import Mathlib.Data.Fintype.Card
public import Mathlib.Algebra.BigOperators.Fin
public import Mathlib.Algebra.Order.BigOperators.Group.Finset

@[expose] public section

namespace Cert.Mode

open Idealize.ShloMosaic

/-- How often the label of entry `i` occurs. -/
def count (l : Fin 5 → Nat) (i : Fin 5) : Nat := ∑ k, if l i = l k then 1 else 0

/-- The score of entry `i`. -/
def score (l : Fin 5 → Nat) (i : Fin 5) : Nat := count l i * 65 + (64 - l i)

/-- `a` is the label of an entry with the greatest score. -/
def IsMode (l : Fin 5 → Nat) (a : Nat) : Prop := ∃ i, a = l i ∧ ∀ k, score l k ≤ score l i

/-- A label occurs at most five times. -/
theorem count_le (l : Fin 5 → Nat) (i : Fin 5) : count l i ≤ 5 := by
  unfold count
  refine (Finset.sum_le_sum (fun k _ => (by split <;> omega : (if l i = l k then 1 else 0) ≤ 1))).trans ?_
  simp

/-- A score is small. -/
theorem score_lt {l : Fin 5 → Nat} (i : Fin 5) : score l i < 1024 := by
  have := count_le l i
  unfold score
  omega

/-- Equal scores are of equal labels. -/
theorem label_eq {l : Fin 5 → Nat} (hl : ∀ i, l i < 64) {i k : Fin 5} (h : score l i = score l k) : l i = l k := by
  have h1 := hl i
  have h2 := hl k
  unfold score at h
  omega

/-- There is one most frequent label. -/
theorem IsMode.unique {l : Fin 5 → Nat} (hl : ∀ i, l i < 64) {a b : Nat} (ha : IsMode l a) (hb : IsMode l b) : a = b := by
  obtain ⟨i, rfl, hi⟩ := ha
  obtain ⟨k, rfl, hk⟩ := hb
  exact label_eq hl (le_antisymm (hk i) (hi k))

/-- There is a label with the greatest score. -/
theorem exists_mode (l : Fin 5 → Nat) : ∃ a, IsMode l a := by
  obtain ⟨i, _, hi⟩ := Finset.exists_max_image Finset.univ (score l) Finset.univ_nonempty
  exact ⟨l i, i, rfl, fun k => hi k (Finset.mem_univ k)⟩

/-- The label with the greatest score. -/
noncomputable def mode (l : Fin 5 → Nat) : Nat := (exists_mode l).choose

/-- The mode is the label of greatest score. -/
theorem mode_spec (l : Fin 5 → Nat) : IsMode l (mode l) := (exists_mode l).choose_spec

/-- The mode is one of the labels, so below 64. -/
theorem mode_lt {l : Fin 5 → Nat} (hl : ∀ i, l i < 64) : mode l < 64 := by
  obtain ⟨i, h, _⟩ := mode_spec l
  rw [h]; exact hl i

/-- One where two words are equal and zero where they are not. -/
def same (x y : BitVec 32) : BitVec 32 := BitVec.setWidth 32 (IntOp.cmpi .eq x y)

/-- Whether two labels agree, as a word. -/
theorem same_eq {m n : Nat} (hm : m < 64) (hn : n < 64) :
    same (BitVec.ofNat 32 m) (BitVec.ofNat 32 n) = BitVec.ofNat 32 (if m = n then 1 else 0) := by
  unfold same
  show BitVec.setWidth 32 (BitVec.ofBool (BitVec.ofNat 32 m == BitVec.ofNat 32 n)) = _
  by_cases h : m = n
  · rw [if_pos h, h, beq_self_eq_true]; rfl
  · rw [if_neg h, beq_eq_false_iff_ne.mpr fun e => h (Words.ofNat_inj (by omega) (by omega) e)]; rfl

/-- The score as a word, from the count. -/
def scoreOf (n x : BitVec 32) : BitVec 32 := IntOp.addi (IntOp.muli n 65#32) (IntOp.subi 64#32 x)

/-- The kernel's score from a count and a label, as a word. -/
theorem scoreOf_eq {l : Fin 5 → Nat} (hl : ∀ i, l i < 64) (i : Fin 5) :
    scoreOf (BitVec.ofNat 32 (count l i)) (BitVec.ofNat 32 (l i)) = BitVec.ofNat 32 (score l i) := by
  have h1 := hl i
  have h2 := count_le l i
  show BitVec.ofNat 32 (count l i) * 65#32 + (64#32 - BitVec.ofNat 32 (l i)) = _
  have e : 64#32 - BitVec.ofNat 32 (l i) = BitVec.ofNat 32 (64 - l i) := by
    refine BitVec.eq_of_toNat_eq ?_
    rw [BitVec.toNat_sub, Words.toNat_ofNat (by omega), Words.toNat_ofNat (by omega), Words.toNat_ofNat (by omega)]
    omega
  rw [e, ← BitVec.ofNat_mul, ← BitVec.ofNat_add]
  rfl

/-- The kernel's score of entry `i`: the count adds up from a zero the first label times 0 gives. -/
def scoreK (l : Fin 5 → BitVec 32) (i : Fin 5) : BitVec 32 :=
  scoreOf (IntOp.addi (IntOp.addi (IntOp.addi (IntOp.addi (IntOp.addi (IntOp.muli (l 0) 0#32) (same (l i) (l 0))) (same (l i) (l 1)))
    (same (l i) (l 2))) (same (l i) (l 3))) (same (l i) (l 4))) (l i)

/-- The kernel's score of a label is the score. -/
theorem scoreK_eq {l : Fin 5 → Nat} (hl : ∀ i, l i < 64) (i : Fin 5) :
    scoreK (fun k => BitVec.ofNat 32 (l k)) i = BitVec.ofNat 32 (score l i) := by
  rw [← scoreOf_eq hl]
  unfold scoreK
  congr 1
  rw [same_eq (hl i) (hl 0), same_eq (hl i) (hl 1), same_eq (hl i) (hl 2), same_eq (hl i) (hl 3), same_eq (hl i) (hl 4)]
  show BitVec.ofNat 32 (l 0) * 0#32 + BitVec.ofNat 32 _ + BitVec.ofNat 32 _ + BitVec.ofNat 32 _ + BitVec.ofNat 32 _ + BitVec.ofNat 32 _ = _
  rw [BitVec.mul_zero, BitVec.zero_add, ← BitVec.ofNat_add, ← BitVec.ofNat_add, ← BitVec.ofNat_add, ← BitVec.ofNat_add]
  unfold count
  rw [Fin.sum_univ_five]

/-- The maximum of two words read as signed numbers. -/
theorem toInt_maxsi (x y : BitVec 32) : (IntOp.maxsi x y).toInt = max x.toInt y.toInt := by
  unfold IntOp.maxsi
  by_cases h : y.toInt < x.toInt
  · rw [if_pos (by rw [BitVec.slt_eq_decide]; exact decide_eq_true h), max_eq_left h.le]
  · rw [if_neg (by rw [BitVec.slt_eq_decide]; simpa using h), max_eq_right (not_lt.mp h)]

/-- The greatest of the five scores, as the kernel takes it. -/
def topK (s : Fin 5 → BitVec 32) : BitVec 32 := IntOp.maxsi (IntOp.maxsi (IntOp.maxsi (IntOp.maxsi (s 0) (s 1)) (s 2)) (s 3)) (s 4)

/-- The kernel's choice: the greatest of the labels that have the greatest score. -/
def modeK (l : Fin 5 → BitVec 32) (s : Fin 5 → BitVec 32) : BitVec 32 :=
  IntOp.maxsi (IntOp.maxsi (IntOp.maxsi (IntOp.maxsi (IntOp.maxsi (IntOp.subi (IntOp.muli (l 0) 0#32) 1#32)
    (Scalar.select (IntOp.cmpi .eq (s 0) (topK s)) (l 0) 4294967295#32))
    (Scalar.select (IntOp.cmpi .eq (s 1) (topK s)) (l 1) 4294967295#32))
    (Scalar.select (IntOp.cmpi .eq (s 2) (topK s)) (l 2) 4294967295#32))
    (Scalar.select (IntOp.cmpi .eq (s 3) (topK s)) (l 3) 4294967295#32))
    (Scalar.select (IntOp.cmpi .eq (s 4) (topK s)) (l 4) 4294967295#32)

/-- The kernel's greatest score is the greatest score. -/
theorem topK_eq {l : Fin 5 → Nat} (i : Fin 5) (hi : ∀ k, score l k ≤ score l i) :
    topK (fun k => BitVec.ofNat 32 (score l k)) = BitVec.ofNat 32 (score l i) := by
  have hs : ∀ k, score l k < 2 ^ 31 := fun k => lt_trans (score_lt k) (by omega)
  refine BitVec.eq_of_toInt_eq ?_
  unfold topK
  simp only [toInt_maxsi, Words.toInt_ofNat (hs _)]
  have h0 := hi 0
  have h1 := hi 1
  have h2 := hi 2
  have h3 := hi 3
  have h4 := hi 4
  fin_cases i <;> simp only [Fin.mk_zero, Fin.isValue, Fin.zero_eta, Fin.mk_one, Fin.reduceFinMk] at * <;> omega

/-- The kernel's choice from five labels is their mode. -/
theorem modeK_eq {l : Fin 5 → Nat} (hl : ∀ i, l i < 64) :
    modeK (fun k => BitVec.ofNat 32 (l k)) (scoreK fun k => BitVec.ofNat 32 (l k)) = BitVec.ofNat 32 (mode l) := by
  obtain ⟨i, hm, hi⟩ := mode_spec l
  have hs : ∀ k, score l k < 2 ^ 32 := fun k => lt_trans (score_lt k) (by omega)
  rw [funext (scoreK_eq hl)]
  have hc : ∀ k, (Scalar.select (IntOp.cmpi .eq (BitVec.ofNat 32 (score l k)) (topK fun k => BitVec.ofNat 32 (score l k)))
      (BitVec.ofNat 32 (l k)) 4294967295#32).toInt = if score l k = score l i then (mode l : Int) else -1 := fun k => by
    rw [topK_eq i hi, Words.select_eq]
    by_cases e : score l k = score l i
    · rw [if_pos (by rw [e]), if_pos e, Words.toInt_ofNat (lt_trans (hl k) (by omega)), hm, label_eq hl e]
    · rw [if_neg fun e' => e (Words.ofNat_inj (hs k) (hs i) e'), if_neg e]; rfl
  refine BitVec.eq_of_toInt_eq ?_
  unfold modeK
  simp only [toInt_maxsi, hc]
  rw [Words.toInt_ofNat (lt_trans (mode_lt hl) (by omega))]
  have hz : (IntOp.subi (IntOp.muli (BitVec.ofNat 32 (l 0)) 0#32) 1#32).toInt = -1 := by
    show (BitVec.ofNat 32 (l 0) * 0#32 - 1#32).toInt = -1
    rw [BitVec.mul_zero]; rfl
  rw [hz]
  have hn : ((if score l 0 = score l i then (mode l : Int) else -1) = mode l) ∨ (if score l 1 = score l i then (mode l : Int) else -1) = mode l
      ∨ (if score l 2 = score l i then (mode l : Int) else -1) = mode l ∨ (if score l 3 = score l i then (mode l : Int) else -1) = mode l
      ∨ (if score l 4 = score l i then (mode l : Int) else -1) = mode l := by
    fin_cases i <;> simp
  have hb : ∀ k, (if score l k = score l i then (mode l : Int) else -1) ≤ mode l := fun k => by split <;> omega
  have h0 := hb 0
  have h1 := hb 1
  have h2 := hb 2
  have h3 := hb 3
  have h4 := hb 4
  omega

end Cert.Mode

end
-- ==== Proof.Spec.lean ====
/-
  The mathematics the two programs share, as functions of the source features `x`, the target features `y` and the source labels `lab`.
-/
module

public import proofs.«01_k».proof.Proof.Order
public import proofs.«01_k».proof.Proof.Mode
public import Idealize.ShloMosaic.PureOps.Ideal

@[expose] public section

noncomputable section

namespace Cert.Spec

open Idealize.ShloMosaic Cert.Order

/-- One over one plus the distance of two vectors, from their squared lengths and their product. -/
def simOf (a b ab : EReal) : EReal :=
  Ideal.div (Ideal.ofBits .f32 0x3F800000#32)
    (Ideal.sqrt (max (a + b - Ideal.ofBits .f32 0x40000000#32 * ab) (Ideal.ofBits .f32 0x2B8CBCCC#32)) + Ideal.ofBits .f32 0x3F800000#32)

/-- The similarity of source row `i` and target row `j`. -/
def sim {n m : Nat} (x : Fin n → Fin 64 → EReal) (y : Fin m → Fin 64 → EReal) (i : Fin n) (j : Fin m) : EReal :=
  simOf (∑ d, x i d * x i d) (∑ d, y j d * y j d) (∑ d, x i d * y j d)

/-- There are at least five rows. -/
theorem five_le : 5 ≤ 4096 := by omega

/-- The labels of the five entries listed first. -/
def top (w : Fin 4096 → EReal) (ℓ : Fin 4096 → Nat) (r : Fin 5) : Nat := ℓ (listed w (r.castLE five_le))

/-- The label a target column is assigned, from its similarities: the most frequent of the labels of the five nearest source rows. -/
def assigned (w : Fin 4096 → EReal) (ℓ : Fin 4096 → Nat) : Nat := Mode.mode (top w ℓ)

/-- The sum of the five greatest entries. -/
def topSum (w : Fin 4096 → EReal) : EReal := ∑ r : Fin 5, w (listed w (r.castLE five_le))

/-- The ratio of a column: its five greatest similarities to rows of label `a` over its five greatest to rows of other labels. -/
def ratio (w : Fin 4096 → EReal) (ℓ : Fin 4096 → Nat) (a : Nat) : EReal :=
  Ideal.div (topSum fun i => if ℓ i = a then w i else ⊥) (topSum fun i => if ℓ i = a then ⊥ else w i)

/-- One for the 2048 columns whose ratio is listed first and zero for the others. -/
def chosen (q : Fin 4096 → EReal) (j : Fin 4096) : EReal := if (place q j).val < 2048 then 1 else 0

/-- One where a row's label is a column's and zero elsewhere. -/
def hit (b a : Nat) : EReal := if b = a then 1 else 0

/-- A row takes part when some chosen column has its label and some chosen column has not. -/
def Valid (c : Fin 4096 → EReal) (a : Fin 4096 → Nat) (b : Nat) : Prop :=
  0 < (∑ j, c j * hit b (a j)) ∧ 0 < ∑ j, c j * (1 - hit b (a j))

instance (c : Fin 4096 → EReal) (a : Fin 4096 → Nat) (b : Nat) : Decidable (Valid c a b) := Classical.dec _

/-- What a row adds to the loss: the logarithm of the share its own label has of the weights of the chosen columns. -/
def term (s : Fin 4096 → EReal) (c : Fin 4096 → EReal) (a : Fin 4096 → Nat) (b : Nat) : EReal :=
  if Valid c a b then Ideal.log (Ideal.div (∑ j, Ideal.exp (s j) * c j * hit b (a j)) (∑ j, Ideal.exp (s j) * c j)) else 0

/-- The loss: minus the sum over the rows over the number of rows that take part. -/
def loss (t v : Fin 4096 → EReal) : EReal := Ideal.div (-(∑ i, t i)) (max (∑ i, v i) 1)

/-- All the programs compute, from the features and labels. -/
def result (x y : Fin 4096 → Fin 64 → EReal) (ℓ : Fin 4096 → Nat) : EReal :=
  let s := sim x y
  let a := fun j => assigned (fun i => s i j) ℓ
  let c := chosen fun j => ratio (fun i => s i j) ℓ (a j)
  loss (fun i => term (s i) c a (ℓ i)) (fun i => if Valid c a (ℓ i) then 1 else 0)

end Cert.Spec

end
-- ==== Proof.SimReal.lean ====
/-
  A similarity is a real number, at least 0, whatever extended reals it is computed from: the distance is at least the square root of the
  positive constant under the maximum.
-/
module

public import proofs.«01_k».proof.Proof.Spec
public import Idealize.ShloMosaic.Lib.IdealHost

@[expose] public section

noncomputable section

namespace Cert.Spec

open Idealize.ShloMosaic

/-- The constant under the maximum is positive. -/
theorem ofBits_eps_pos : (0 : EReal) < Ideal.ofBits .f32 0x2B8CBCCC#32 := by
  simp [Ideal.ofBits, Ideal.ieee, -EReal.coe_mul]

/-- A square root of a value that is not negative is not negative. -/
theorem sqrt_nonneg {x : EReal} (h : 0 ≤ x) : 0 ≤ Ideal.sqrt x := by
  induction x with
  | bot => simp at h
  | top => exact le_top
  | coe r =>
    have hr : ¬ r < 0 := not_lt.mpr (EReal.coe_nonneg.mp h)
    show 0 ≤ if r < 0 then ⊥ else (Real.sqrt r : EReal)
    rw [if_neg hr]
    exact EReal.coe_nonneg.mpr (Real.sqrt_nonneg r)

/-- A similarity is a real number. -/
theorem simOf_real (a b ab : EReal) : ∃ r : ℝ, 0 ≤ r ∧ simOf a b ab = (r : EReal) := by
  unfold simOf
  rw [Ideal.ofBits_one_f32]
  have h : 0 ≤ Ideal.sqrt (max (a + b - Ideal.ofBits .f32 0x40000000#32 * ab) (Ideal.ofBits .f32 0x2B8CBCCC#32)) :=
    sqrt_nonneg (ofBits_eps_pos.le.trans (le_max_right _ _))
  generalize Ideal.sqrt (max (a + b - Ideal.ofBits .f32 0x40000000#32 * ab) (Ideal.ofBits .f32 0x2B8CBCCC#32)) = s at h ⊢
  induction s with
  | bot => simp at h
  | top =>
    refine ⟨0, le_refl _, ?_⟩
    show Ideal.div 1 (⊤ + 1) = _
    unfold Ideal.div
    rw [show (⊤ : EReal) + 1 = ⊤ from rfl, if_neg (by simp)]
    simp
  | coe r =>
    have hr : 0 ≤ r := EReal.coe_nonneg.mp h
    refine ⟨(r + 1)⁻¹, inv_nonneg.mpr (by linarith), ?_⟩
    unfold Ideal.div
    rw [show ((r : EReal) + 1) = ((r + 1 : ℝ) : EReal) from rfl, if_neg (by
      intro h0
      have := EReal.coe_eq_zero.mp h0
      linarith)]
    rw [one_mul, EReal.coe_inv]

/-- A similarity is not minus infinity. -/
theorem simOf_ne_bot (a b ab : EReal) : simOf a b ab ≠ ⊥ := by
  obtain ⟨r, _, h⟩ := simOf_real a b ab
  rw [h]; exact EReal.coe_ne_bot r

/-- The similarity of two rows is a real number. -/
theorem sim_real {n m : Nat} (x : Fin n → Fin 64 → EReal) (y : Fin m → Fin 64 → EReal) (i : Fin n) (j : Fin m) :
    ∃ r : ℝ, sim x y i j = (r : EReal) := by
  obtain ⟨r, _, h⟩ := simOf_real (∑ d, x i d * x i d) (∑ d, y j d * y j d) (∑ d, x i d * y j d)
  exact ⟨r, h⟩

end Cert.Spec

end
-- ==== Proof.Chain.lean ====
/-
  The first pass's printed values as the rounds they are: five labels, their scores, the label assigned, and two sums of five greatest.
-/
module

public import proofs.«01_k».proof.Proof.Pass1Rounds
public import proofs.«01_k».proof.Proof.SimReal

@[expose] public section

set_option maxRecDepth 16384

noncomputable section

namespace Cert.Pass1

open Idealize.ShloMosaic Cert.KernelIdeal Cert.KernelIdeal.Gen Cert.Order

/-- The row numbers. -/
def rowNo : IVec S4096x256 32 := iota .tc S4096x256 32 [0] iota_S4096x256_d0_w32

/-- A round of the label search: each column's first greatest entry, found by its key, set to −∞. -/
def next (keys : IVec S4096x256 32) (w : FVec Ideal S4096x256 .f32) : FVec Ideal S4096x256 .f32 := strikeRow (divK (pick keys w)) w

/-- The label a round finds. -/
def label (keys : IVec S4096x256 32) (w : FVec Ideal S4096x256 .f32) : IVec S1x256 32 := modK (pick keys w)

/-- A round of the sum: each column's first greatest entry set to −∞. -/
def drop (w : FVec Ideal S4096x256 .f32) : FVec Ideal S4096x256 .f32 := strikeRow (pick rowNo w) w

/-- The sum of each column's five greatest entries, as the kernel takes it. -/
def sum5 (w : FVec Ideal S4096x256 .f32) : FVec Ideal S1x256 .f32 :=
  addf (addf (addf (addf (addf (broadcast S1x256 (Scalar.ofBits .f32 0x00000000#32)) (peak w)) (peak (drop w))) (peak (drop (drop w))))
    (peak (drop (drop (drop w))))) (peak (drop (drop (drop (drop w)))))

/-- Five rows read as five labels at an entry. -/
def five (a b c d e : IVec S1x256 32) (q : S1x256.Idx) : Fin 5 → BitVec 32 := ![a q, b q, c q, d q, e q]

/-- The score of the first of five labels. -/
theorem scoreV0 (a b c d e : IVec S1x256 32) : k0_pay26 a b c d e (k0_pay25 a) = fun q => Mode.scoreK (five a b c d e q) 0 := rfl
/-- The score of the second of five labels. -/
theorem scoreV1 (a b c d e : IVec S1x256 32) : k0_pay27 a b c d e = fun q => Mode.scoreK (five a b c d e q) 1 := rfl
/-- The score of the third of five labels. -/
theorem scoreV2 (a b c d e : IVec S1x256 32) : k0_pay30 c (k0_pay28 a b c d) (k0_pay29 c e) = fun q => Mode.scoreK (five a b c d e q) 2 := rfl
/-- The score of the fourth of five labels. -/
theorem scoreV3 (a b c d e : IVec S1x256 32) : k0_pay31 a b c d e = fun q => Mode.scoreK (five a b c d e q) 3 := rfl
/-- The score of the last of five labels. -/
theorem scoreV4 (a b c d e : IVec S1x256 32) : k0_pay32 a b c d e = fun q => Mode.scoreK (five a b c d e q) 4 := rfl

/-- The label chosen from five labels and their scores. -/
theorem modeV (a b c d e s t u v w : IVec S1x256 32) :
    k0_pay34 a b c d e s t u v w (k0_pay33 s t) = fun q => Mode.modeK (five a b c d e q) (five s t u v w q) := rfl

/-- A row repeated eight times. -/
def over8 (v : FVec Ideal S1x256 .f32) : FVec Ideal S8x256 .f32 :=
  broadcastTo S8x256 (shapeCast S1x256 v shapeCasts_S1x256_S1x256) broadcasts_S1x256_S8x256

/-- The quotient of two rows, with the check for a value unequal to itself the kernel makes. -/
def quot (a b : FVec Ideal S1x256 .f32) : FVec Ideal S1x256 .f32 :=
  select (cmpf .one (divf a b) (divf a b)) (broadcast S1x256 (Scalar.ofBits .f32 0xFF800000#32)) (divf a b)

/-- The similarities where the labels agree, minus infinity elsewhere. -/
theorem nearV (v4 : IVec S4096x1 32) (v24 : FVec Ideal S4096x256 .f32) (a b c d e s t u v w z : IVec S1x256 32) :
    k0_pay36 v4 v24 a b c d e s t u v w z
      = select (cmpi .eq (broadcastTo S4096x256 v4 broadcasts_S4096x1_S4096x256)
          (broadcastTo S4096x256 (k0_pay34 a b c d e s t u v w z) broadcasts_S1x256_S4096x256)) v24
          (broadcast S4096x256 (Scalar.ofBits .f32 0xFF800000#32)) := rfl

/-- The similarities where the labels differ, minus infinity elsewhere. -/
theorem farV (v4 : IVec S4096x1 32) (v24 : FVec Ideal S4096x256 .f32) (a b c d e s t u v w z : IVec S1x256 32) :
    k0_pay41 v24 (k0_pay35 v4 a b c d e s t u v w z)
      = select (cmpi .eq (broadcastTo S4096x256 v4 broadcasts_S4096x1_S4096x256)
          (broadcastTo S4096x256 (k0_pay34 a b c d e s t u v w z) broadcasts_S1x256_S4096x256))
          (broadcast S4096x256 (Scalar.ofBits .f32 0xFF800000#32)) v24 := rfl

/-- The kernel's first sum is the sum of the five greatest. -/
theorem sumV (v4 : IVec S4096x1 32) (v24 : FVec Ideal S4096x256 .f32) (a b c d e s t u v w z : IVec S1x256 32) :
    k0_pay40 rowNo (k0_pay38 v4 v24 a b c d e s t u v w z) (k0_pay39 v4 v24 rowNo a b c d e s t u v w z)
      = sum5 (k0_pay36 v4 v24 a b c d e s t u v w z) := by
  have h1 : k0_pay38 v4 v24 a b c d e s t u v w z
      = addf (broadcast S1x256 (Scalar.ofBits .f32 0x00000000#32)) (peak (k0_pay36 v4 v24 a b c d e s t u v w z)) := rfl
  have h2 : k0_pay39 v4 v24 rowNo a b c d e s t u v w z = drop (k0_pay36 v4 v24 a b c d e s t u v w z) := rfl
  have h3 : ∀ p (f : FVec Ideal S4096x256 .f32), k0_pay40 rowNo p f = addf (addf (addf (addf p (peak f)) (peak (drop f)))
      (peak (drop (drop f)))) (peak (drop (drop (drop f)))) := fun _ _ => rfl
  rw [h1, h2, h3]
  rfl

/-- The kernel's second sum is the sum of the five greatest, and the block it stores is the quotient repeated eight times. -/
theorem ratioV (p : FVec Ideal S1x256 .f32) (f : FVec Ideal S4096x256 .f32) :
    k0_pay1 rowNo p (k0_pay48 rowNo f) (k0_pay50 rowNo f (k0_pay42 (F := Ideal))) (k0_pay51 rowNo f) = over8 (quot p (sum5 f)) := by
  have h1 : k0_pay44 rowNo f = drop f := rfl
  have h2 : k0_pay46 rowNo f = drop (k0_pay44 rowNo f) := rfl
  have h3 : k0_pay48 rowNo f = drop (k0_pay46 rowNo f) := rfl
  have h4 : k0_pay50 rowNo f (k0_pay42 (F := Ideal)) = addf (addf (addf (addf (broadcast S1x256 (Scalar.ofBits .f32 0x00000000#32)) (peak f))
      (peak (k0_pay44 rowNo f))) (peak (k0_pay46 rowNo f))) (peak (k0_pay48 rowNo f)) := rfl
  have h5 : ∀ (g : FVec Ideal S4096x256 .f32) (s : FVec Ideal S1x256 .f32),
      k0_pay1 rowNo p g s (select (cmpf .oeq g (broadcastTo S4096x256 (peak g) broadcasts_S1x256_S4096x256)) rowNo
        (broadcast S4096x256 1073741824#32)) = over8 (quot p (addf s (peak (drop g)))) := fun _ _ => rfl
  have h6 : k0_pay51 rowNo f = select (cmpf .oeq (k0_pay48 rowNo f) (broadcastTo S4096x256 (peak (k0_pay48 rowNo f))
      broadcasts_S1x256_S4096x256)) rowNo (broadcast S4096x256 1073741824#32) := rfl
  rw [h6, h5, h4, h3, h2, h1]
  rfl

section Chain

variable (x0 : Vec Ideal S4096x64 .f32) (x1 : Vec Ideal S64x256 .f32) (x2 : Vec Ideal S4096x1 .i32)

/-- The label of the nearest row. -/
theorem lab0 : k0_pay57 x0 x1 x2 = label (k0_pay55 x0 x1 x2) (k0_pay54 x0 x1 x2) := rfl
/-- The label of the second nearest row. -/
theorem lab1 : k0_pay60 x0 x1 x2 = label (k0_pay55 x0 x1 x2) (next (k0_pay55 x0 x1 x2) (k0_pay54 x0 x1 x2)) := rfl
/-- The label of the third nearest row. -/
theorem lab2 : k0_pay63 x0 x1 x2 = label (k0_pay55 x0 x1 x2) (next (k0_pay55 x0 x1 x2) (next (k0_pay55 x0 x1 x2) (k0_pay54 x0 x1 x2))) := rfl
/-- The label of the fourth nearest row. -/
theorem lab3 : k0_pay67 x0 x1 x2
    = label (k0_pay55 x0 x1 x2) (next (k0_pay55 x0 x1 x2) (next (k0_pay55 x0 x1 x2) (next (k0_pay55 x0 x1 x2) (k0_pay54 x0 x1 x2)))) := rfl
/-- The label of the fifth nearest row. -/
theorem lab4 : k0_pay68 x0 x1 x2
    = label (k0_pay55 x0 x1 x2) (next (k0_pay55 x0 x1 x2) (next (k0_pay55 x0 x1 x2) (next (k0_pay55 x0 x1 x2)
        (next (k0_pay55 x0 x1 x2) (k0_pay54 x0 x1 x2))))) := rfl

/-- The five labels of a column. -/
def labels : S1x256.Idx → Fin 5 → BitVec 32 :=
  five (k0_pay57 x0 x1 x2) (k0_pay60 x0 x1 x2) (k0_pay63 x0 x1 x2) (k0_pay67 x0 x1 x2) (k0_pay68 x0 x1 x2)

/-- The score of the nearest row's label. -/
theorem score0 : k0_pay69 x0 x1 x2 = fun q => Mode.scoreK (labels x0 x1 x2 q) 0 := scoreV0 _ _ _ _ _
/-- The score of the second nearest row's label. -/
theorem score1 : k0_pay70 x0 x1 x2 = fun q => Mode.scoreK (labels x0 x1 x2 q) 1 := scoreV1 _ _ _ _ _
/-- The score of the third nearest row's label. -/
theorem score2 : k0_pay71 x0 x1 x2 = fun q => Mode.scoreK (labels x0 x1 x2 q) 2 := scoreV2 _ _ _ _ _
/-- The score of the fourth nearest row's label. -/
theorem score3 : k0_pay72 x0 x1 x2 = fun q => Mode.scoreK (labels x0 x1 x2 q) 3 := scoreV3 _ _ _ _ _
/-- The score of the fifth nearest row's label. -/
theorem score4 : k0_pay73 x0 x1 x2 = fun q => Mode.scoreK (labels x0 x1 x2 q) 4 := scoreV4 _ _ _ _ _

/-- The label the block assigns each column. -/
def asg : IVec S1x256 32 := k0_pay34 (k0_pay57 x0 x1 x2) (k0_pay60 x0 x1 x2) (k0_pay63 x0 x1 x2) (k0_pay67 x0 x1 x2) (k0_pay68 x0 x1 x2)
  (k0_pay69 x0 x1 x2) (k0_pay70 x0 x1 x2) (k0_pay71 x0 x1 x2) (k0_pay72 x0 x1 x2) (k0_pay73 x0 x1 x2) (k0_pay74 x0 x1 x2)

/-- The label assigned to each column of the block. -/
theorem asg_eq : asg x0 x1 x2 = fun q => Mode.modeK (labels x0 x1 x2 q) (Mode.scoreK (labels x0 x1 x2 q)) := by
  have h := modeV (k0_pay57 x0 x1 x2) (k0_pay60 x0 x1 x2) (k0_pay63 x0 x1 x2) (k0_pay67 x0 x1 x2) (k0_pay68 x0 x1 x2)
    (k0_pay69 x0 x1 x2) (k0_pay70 x0 x1 x2) (k0_pay71 x0 x1 x2) (k0_pay72 x0 x1 x2) (k0_pay73 x0 x1 x2)
  refine h.trans ?_
  rw [score0, score1, score2, score3, score4]
  funext q
  show Mode.modeK (labels x0 x1 x2 q) _ = _
  congr 1
  funext k
  fin_cases k <;> rfl

/-- The similarities to rows of the column's label, the others −∞. -/
def near : FVec Ideal S4096x256 .f32 := k0_pay36 (k0_pay53 x0 x1 x2) (k0_pay54 x0 x1 x2) (k0_pay57 x0 x1 x2) (k0_pay60 x0 x1 x2)
  (k0_pay63 x0 x1 x2) (k0_pay67 x0 x1 x2) (k0_pay68 x0 x1 x2)
  (k0_pay69 x0 x1 x2) (k0_pay70 x0 x1 x2) (k0_pay71 x0 x1 x2) (k0_pay72 x0 x1 x2) (k0_pay73 x0 x1 x2) (k0_pay74 x0 x1 x2)

/-- The block's similarities to rows of the column's label. -/
theorem near_eq : near x0 x1 x2 = select (cmpi .eq (broadcastTo S4096x256 (k0_pay53 x0 x1 x2) broadcasts_S4096x1_S4096x256)
    (broadcastTo S4096x256 (asg x0 x1 x2) broadcasts_S1x256_S4096x256)) (k0_pay54 x0 x1 x2)
    (broadcast S4096x256 (Scalar.ofBits .f32 0xFF800000#32)) := nearV _ _ _ _ _ _ _ _ _ _ _ _ _

/-- The block's similarities to rows of other labels. -/
theorem far_eq : k0_pay75 x0 x1 x2 = select (cmpi .eq (broadcastTo S4096x256 (k0_pay53 x0 x1 x2) broadcasts_S4096x1_S4096x256)
    (broadcastTo S4096x256 (asg x0 x1 x2) broadcasts_S1x256_S4096x256)) (broadcast S4096x256 (Scalar.ofBits .f32 0xFF800000#32))
    (k0_pay54 x0 x1 x2) := farV _ _ _ _ _ _ _ _ _ _ _ _ _

/-- The ratios a step writes. -/
theorem out3 : out0_3 x0 x1 x2 = View.canon [⟨r0_3, over8 (quot (sum5 (near x0 x1 x2)) (sum5 (k0_pay75 x0 x1 x2)))⟩] := by
  have h1 := ratioV (sum5 (near x0 x1 x2)) (k0_pay75 x0 x1 x2)
  have h2 := sumV (k0_pay53 x0 x1 x2) (k0_pay54 x0 x1 x2) (k0_pay57 x0 x1 x2) (k0_pay60 x0 x1 x2)
    (k0_pay63 x0 x1 x2) (k0_pay67 x0 x1 x2) (k0_pay68 x0 x1 x2) (k0_pay69 x0 x1 x2) (k0_pay70 x0 x1 x2) (k0_pay71 x0 x1 x2)
    (k0_pay72 x0 x1 x2) (k0_pay73 x0 x1 x2) (k0_pay74 x0 x1 x2)
  unfold out0_3
  rw [← h1, near, ← h2]
  rfl

/-- The labels a step writes. -/
theorem out4 : out0_4 x0 x1 x2 = View.canon [⟨r0_3, k0_pay2 (asg x0 x1 x2)⟩] := rfl

end Chain

end Cert.Pass1

end
-- ==== Proof.Pass1.lean ====
/-
  What the first pass leaves in a block of 256 columns, read at an entry: the label assigned to each column and its ratio.
-/
module

public import proofs.«01_k».proof.Proof.Chain

@[expose] public section

set_option maxRecDepth 16384

noncomputable section

namespace Cert.Pass1

open Idealize.ShloMosaic Cert.KernelIdeal Cert.KernelIdeal.Gen Cert.Order

/-- The offsets of a load of a whole array. -/
theorem zero2 : (![0, 0] : Fin 2 → Nat) = fun _ => 0 := by decide

/-- The row number as a word. -/
theorem rowNo_apply (i : Fin 4096) (c : Fin 256) : rowNo (ix2 i c) = BitVec.ofNat 32 i.val := by
  pointwise [rowNo]

/-- The key of a row: 64 times its number and its label. -/
theorem keys_apply (x0 : Vec Ideal S4096x64 .f32) (x1 : Vec Ideal S64x256 .f32) (x2 : Vec Ideal S4096x1 .i32) (ℓ : Fin 4096 → Nat)
    (h : ∀ i, x2 (ix2 i 0) = BitVec.ofNat 32 (ℓ i)) (i : Fin 4096) (c : Fin 256) :
    k0_pay55 x0 x1 x2 (ix2 i c) = BitVec.ofNat 32 (64 * i.val + ℓ i) := by
  unfold k0_pay55
  rw [View.ld_unit_zero zero2]
  pointwise [k0_pay5, k0_pay3]
  rw [h]
  show BitVec.ofNat 32 i.val * 64#32 + BitVec.ofNat 32 (ℓ i) = _
  rw [← BitVec.ofNat_mul, ← BitVec.ofNat_add, Nat.mul_comm]

/-- The labels as they were read. -/
theorem labCol_apply (x0 : Vec Ideal S4096x64 .f32) (x1 : Vec Ideal S64x256 .f32) (x2 : Vec Ideal S4096x1 .i32) (i : Fin 4096) :
    k0_pay53 x0 x1 x2 (ix2 i 0) = x2 (ix2 i 0) := by
  unfold k0_pay53
  rw [View.ld_unit_zero zero2]
  pointwise [k0_pay3]

/-- The similarities of a block. -/
theorem sim_apply (x0 : Vec Ideal S4096x64 .f32) (x1 : Vec Ideal S64x256 .f32) (x2 : Vec Ideal S4096x1 .i32) (i : Fin 4096) (c : Fin 256) :
    k0_pay54 x0 x1 x2 (ix2 i c) = Spec.sim (fun i d => x0 (ix2 i d)) (fun c d => x1 (ix2 d c)) i c := by
  unfold k0_pay54
  rw [View.ld_unit_zero zero2, View.ld_unit_zero zero2]
  pointwise [k0_pay4]
  unfold Spec.sim Spec.simOf
  rw [Ideal.ofBits_one_f32]

section Rounds

variable (keys : IVec S4096x256 32) (c : Fin 256) (ℓ : Fin 4096 → Nat) (hℓ : ∀ i, ℓ i < 64)
  (hk : ∀ i, keys (ix2 i c) = BitVec.ofNat 32 (64 * i.val + ℓ i))

include hℓ hk in
/-- The key picked in a round is that of the first greatest entry. -/
theorem pick_keys (w : FVec Ideal S4096x256 .f32) :
    pick keys w (ix2 0 c) = BitVec.ofNat 32 (64 * (first (col w c)).val + ℓ (first (col w c))) := by
  refine pick_apply keys w c (fun i => 64 * i.val + ℓ i) (fun i => ?_) (fun i j h => ?_) hk
  · have := hℓ i
    have := i.isLt
    show 64 * i.val + ℓ i ≤ _
    omega
  · rcases h.eq_or_lt with rfl | h'
    · exact le_refl _
    · have := hℓ i
      have : i.val < j.val := h'
      show 64 * i.val + ℓ i ≤ 64 * j.val + ℓ j
      omega

include hℓ hk in
/-- A round strikes out the first greatest entry of each column. -/
theorem next_col (w : FVec Ideal S4096x256 .f32) : col (next keys w) c = strike (col w c) := by
  have h := pick_keys keys c ℓ hℓ hk w
  have hl := hℓ (first (col w c))
  refine col_strikeRow _ w c ?_
  rw [divK_apply _ c _ (by have := (first (col w c)).isLt; omega) h, Nat.mul_add_div (by omega), Nat.div_eq_of_lt hl, Nat.add_zero]

include hℓ hk in
/-- The label a round gives is that of the first greatest entry. -/
theorem label_apply (w : FVec Ideal S4096x256 .f32) : label keys w (ix2 0 c) = BitVec.ofNat 32 (ℓ (first (col w c))) := by
  have h := pick_keys keys c ℓ hℓ hk w
  have hl := hℓ (first (col w c))
  unfold label
  rw [modK_apply _ c _ (by have := (first (col w c)).isLt; omega) h, Nat.mul_add_mod, Nat.mod_eq_of_lt hl]

end Rounds

/-- So does a round that goes by the row number alone. -/
theorem drop_col (w : FVec Ideal S4096x256 .f32) (c : Fin 256) : col (drop w) c = strike (col w c) := by
  refine col_strikeRow _ w c ?_
  exact pick_apply rowNo w c (fun i => i.val) (fun i => by have := i.isLt; show i.val ≤ _; omega) (fun i j h => h) (fun i => rowNo_apply i c)

/-- One more round. -/
theorem strike_struck {n : Nat} [NeZero n] (w : Fin n → EReal) (r : Nat) : strike (struck w r) = struck w (r + 1) := rfl

/-- Five rounds sum the five greatest entries of a column. -/
theorem sum5_apply (w : FVec Ideal S4096x256 .f32) (c : Fin 256) : sum5 w (ix2 0 c) = Spec.topSum (col w c) := by
  have h0 : ∀ r : Fin 5, greatest (struck (col w c) r.val) = col w c (listed (col w c) (r.castLE Spec.five_le)) :=
    fun r => greatest_struck (col w c) (r.castLE Spec.five_le)
  have e1 : col (drop w) c = struck (col w c) 1 := drop_col w c
  have e2 : col (drop (drop w)) c = struck (col w c) 2 := by rw [drop_col, e1]; rfl
  have e3 : col (drop (drop (drop w))) c = struck (col w c) 3 := by rw [drop_col, e2]; rfl
  have e4 : col (drop (drop (drop (drop w)))) c = struck (col w c) 4 := by rw [drop_col, e3]; rfl
  unfold Spec.topSum
  rw [Fin.sum_univ_five]
  have hs : sum5 w (ix2 0 c) = ((((Ideal.ofBits .f32 0x00000000#32 + peak w (ix2 0 c)) + peak (drop w) (ix2 0 c)) + peak (drop (drop w)) (ix2 0 c))
    + peak (drop (drop (drop w))) (ix2 0 c)) + peak (drop (drop (drop (drop w)))) (ix2 0 c) := rfl
  rw [hs, Ideal.ofBits_zero_f32, zero_add, peak_apply, peak_apply, peak_apply, peak_apply, peak_apply, e1, e2, e3, e4,
    ← h0 0, ← h0 1, ← h0 2, ← h0 3, ← h0 4]
  rfl

/-- The ratio is the quotient: over the extended reals every value equals itself. -/
theorem quot_apply (a b : FVec Ideal S1x256 .f32) (c : Fin 256) : quot a b (ix2 0 c) = Ideal.div (a (ix2 0 c)) (b (ix2 0 c)) := by
  have h : cmpf .one (divf a b) (divf a b) (ix2 0 c) = 0#1 := by
    show Ideal.cmp .one _ _ = 0#1
    simp [Ideal.cmp]
  show Scalar.select (cmpf .one (divf a b) (divf a b) (ix2 0 c)) _ (divf a b (ix2 0 c)) = _
  rw [h]
  rfl

section Block

variable (x0 : Vec Ideal S4096x64 .f32) (x1 : Vec Ideal S64x256 .f32) (x2 : Vec Ideal S4096x1 .i32) (ℓ : Fin 4096 → Nat) (hℓ : ∀ i, ℓ i < 64)
  (h2 : ∀ i, x2 (ix2 i 0) = BitVec.ofNat 32 (ℓ i))

/-- Column `c` of the block's similarities. -/
def simCol (c : Fin 256) : Fin 4096 → EReal := fun i => Spec.sim (fun i d => x0 (ix2 i d)) (fun c d => x1 (ix2 d c)) i c

/-- A column of the block's similarities. -/
theorem col_sim (c : Fin 256) : col (k0_pay54 x0 x1 x2) c = simCol x0 x1 c := funext fun i => sim_apply x0 x1 x2 i c

include hℓ h2 in
/-- The five labels found for a column. -/
theorem labels_apply (c : Fin 256) :
    labels x0 x1 x2 (ix2 0 c) = fun r => BitVec.ofNat 32 (Spec.top (simCol x0 x1 c) ℓ r) := by
  have hk : ∀ i, k0_pay55 x0 x1 x2 (ix2 i c) = BitVec.ofNat 32 (64 * i.val + ℓ i) := fun i => keys_apply x0 x1 x2 ℓ h2 i c
  have hne : ∀ i, simCol x0 x1 c i ≠ ⊥ := fun i => Spec.simOf_ne_bot _ _ _
  have hf : ∀ r : Fin 5, first (struck (simCol x0 x1 c) r.val) = listed (simCol x0 x1 c) (r.castLE Spec.five_le) :=
    fun r => first_struck (simCol x0 x1 c) (r.castLE Spec.five_le) (hne _)
  have n := next_col (k0_pay55 x0 x1 x2) c ℓ hℓ hk
  have l := label_apply (k0_pay55 x0 x1 x2) c ℓ hℓ hk
  have e0 : col (k0_pay54 x0 x1 x2) c = struck (simCol x0 x1 c) 0 := col_sim x0 x1 x2 c
  have e1 : col (next (k0_pay55 x0 x1 x2) (k0_pay54 x0 x1 x2)) c = struck (simCol x0 x1 c) 1 := by rw [n, e0]; rfl
  have e2 : col (next (k0_pay55 x0 x1 x2) (next (k0_pay55 x0 x1 x2) (k0_pay54 x0 x1 x2))) c = struck (simCol x0 x1 c) 2 := by rw [n, e1]; rfl
  have e3 : col (next (k0_pay55 x0 x1 x2) (next (k0_pay55 x0 x1 x2) (next (k0_pay55 x0 x1 x2) (k0_pay54 x0 x1 x2)))) c
      = struck (simCol x0 x1 c) 3 := by rw [n, e2]; rfl
  have e4 : col (next (k0_pay55 x0 x1 x2) (next (k0_pay55 x0 x1 x2) (next (k0_pay55 x0 x1 x2) (next (k0_pay55 x0 x1 x2) (k0_pay54 x0 x1 x2))))) c
      = struck (simCol x0 x1 c) 4 := by rw [n, e3]; rfl
  have r0 : k0_pay57 x0 x1 x2 (ix2 0 c) = BitVec.ofNat 32 (Spec.top (simCol x0 x1 c) ℓ 0) := by
    rw [lab0, l, e0]; exact congrArg (fun i => BitVec.ofNat 32 (ℓ i)) (hf 0)
  have r1 : k0_pay60 x0 x1 x2 (ix2 0 c) = BitVec.ofNat 32 (Spec.top (simCol x0 x1 c) ℓ 1) := by
    rw [lab1, l, e1]; exact congrArg (fun i => BitVec.ofNat 32 (ℓ i)) (hf 1)
  have r2 : k0_pay63 x0 x1 x2 (ix2 0 c) = BitVec.ofNat 32 (Spec.top (simCol x0 x1 c) ℓ 2) := by
    rw [lab2, l, e2]; exact congrArg (fun i => BitVec.ofNat 32 (ℓ i)) (hf 2)
  have r3 : k0_pay67 x0 x1 x2 (ix2 0 c) = BitVec.ofNat 32 (Spec.top (simCol x0 x1 c) ℓ 3) := by
    rw [lab3, l, e3]; exact congrArg (fun i => BitVec.ofNat 32 (ℓ i)) (hf 3)
  have r4 : k0_pay68 x0 x1 x2 (ix2 0 c) = BitVec.ofNat 32 (Spec.top (simCol x0 x1 c) ℓ 4) := by
    rw [lab4, l, e4]; exact congrArg (fun i => BitVec.ofNat 32 (ℓ i)) (hf 4)
  funext r
  fin_cases r
  · exact r0
  · exact r1
  · exact r2
  · exact r3
  · exact r4

include hℓ h2 in
/-- The label the block assigns a column. -/
theorem asg_apply (c : Fin 256) : asg x0 x1 x2 (ix2 0 c) = BitVec.ofNat 32 (Spec.assigned (simCol x0 x1 c) ℓ) := by
  rw [asg_eq]
  show Mode.modeK (labels x0 x1 x2 (ix2 0 c)) (Mode.scoreK (labels x0 x1 x2 (ix2 0 c))) = _
  rw [labels_apply x0 x1 x2 ℓ hℓ h2 c]
  exact Mode.modeK_eq fun r => hℓ _

/-- An assigned label is below 64. -/
theorem assigned_lt (w : Fin 4096 → EReal) : (hℓ : ∀ i, ℓ i < 64) → Spec.assigned w ℓ < 64 := fun hℓ => Mode.mode_lt fun r => hℓ _

include hℓ h2 in
/-- A row's label word is the assigned one when the labels are equal. -/
theorem mask_iff (i : Fin 4096) (c : Fin 256) :
    (k0_pay53 x0 x1 x2 (ix2 i 0) = asg x0 x1 x2 (ix2 0 c)) ↔ ℓ i = Spec.assigned (simCol x0 x1 c) ℓ := by
  rw [labCol_apply, h2, asg_apply x0 x1 x2 ℓ hℓ h2 c]
  have h := assigned_lt ℓ (simCol x0 x1 c) hℓ
  have h' := hℓ i
  exact ⟨fun e => Words.ofNat_inj (by omega) (by omega) e, fun e => by rw [e]⟩

include hℓ h2 in
/-- A column of the similarities to rows of its label. -/
theorem near_col (c : Fin 256) :
    col (near x0 x1 x2) c = fun i => if ℓ i = Spec.assigned (simCol x0 x1 c) ℓ then simCol x0 x1 c i else ⊥ := by
  funext i
  have h : near x0 x1 x2 (ix2 i c) = Scalar.select (IntOp.cmpi .eq (k0_pay53 x0 x1 x2 (ix2 i 0)) (asg x0 x1 x2 (ix2 0 c)))
      (k0_pay54 x0 x1 x2 (ix2 i c)) ⊥ := by
    rw [near_eq]
    generalize k0_pay53 x0 x1 x2 = u
    generalize asg x0 x1 x2 = v
    generalize k0_pay54 x0 x1 x2 = w
    pointwise []
    rw [ofBits_negInf]
  refine h.trans ?_
  rw [Words.select_eq, sim_apply]
  by_cases e : ℓ i = Spec.assigned (simCol x0 x1 c) ℓ
  · rw [if_pos ((mask_iff x0 x1 x2 ℓ hℓ h2 i c).mpr e)]
    exact (if_pos e).symm
  · rw [if_neg fun e' => e ((mask_iff x0 x1 x2 ℓ hℓ h2 i c).mp e')]
    exact (if_neg e).symm

include hℓ h2 in
/-- A column of the similarities to rows of other labels. -/
theorem far_col (c : Fin 256) :
    col (k0_pay75 x0 x1 x2) c = fun i => if ℓ i = Spec.assigned (simCol x0 x1 c) ℓ then ⊥ else simCol x0 x1 c i := by
  funext i
  have h : k0_pay75 x0 x1 x2 (ix2 i c) = Scalar.select (IntOp.cmpi .eq (k0_pay53 x0 x1 x2 (ix2 i 0)) (asg x0 x1 x2 (ix2 0 c)))
      ⊥ (k0_pay54 x0 x1 x2 (ix2 i c)) := by
    rw [far_eq]
    generalize k0_pay53 x0 x1 x2 = u
    generalize asg x0 x1 x2 = v
    generalize k0_pay54 x0 x1 x2 = w
    pointwise []
    rw [ofBits_negInf]
  refine h.trans ?_
  rw [Words.select_eq, sim_apply]
  by_cases e : ℓ i = Spec.assigned (simCol x0 x1 c) ℓ
  · rw [if_pos ((mask_iff x0 x1 x2 ℓ hℓ h2 i c).mpr e)]
    exact (if_pos e).symm
  · rw [if_neg fun e' => e ((mask_iff x0 x1 x2 ℓ hℓ h2 i c).mp e')]
    exact (if_neg e).symm

include hℓ h2 in
/-- The ratio the block stores for a column. -/
theorem out3_apply (q : Fin 8) (c : Fin 256) :
    out0_3 x0 x1 x2 (ix2 q c) = Spec.ratio (simCol x0 x1 c) ℓ (Spec.assigned (simCol x0 x1 c) ℓ) := by
  rw [out3, View.canon_unit_zero zero2]
  have h : ∀ v : FVec Ideal S1x256 .f32, over8 v (ix2 q c) = v (ix2 0 c) := fun v => by pointwise [over8]
  rw [h, quot_apply, sum5_apply, sum5_apply, near_col x0 x1 x2 ℓ hℓ h2, far_col x0 x1 x2 ℓ hℓ h2]
  rfl

include hℓ h2 in
/-- The label the block stores for a column. -/
theorem out4_apply (q : Fin 8) (c : Fin 256) :
    out0_4 x0 x1 x2 (ix2 q c) = BitVec.ofNat 32 (Spec.assigned (simCol x0 x1 c) ℓ) := by
  rw [out4, View.canon_unit_zero zero2, ← asg_apply x0 x1 x2 ℓ hℓ h2 c]
  have h : ∀ v : IVec S1x256 32, k0_pay2 v (ix2 q c) = v (ix2 0 c) := fun v => by pointwise [k0_pay2]
  exact h _

end Block

end Cert.Pass1

end
-- ==== Proof.Array0.lean ====
/-
  What the arrays of the first pass hold when its 16 blocks of 256 columns are done: at column j the ratio of column j,
  and the label assigned to it.
-/
module

public import proofs.«01_k».proof.Proof.Pass1
public import proofs.«01_k».proof.Proof.Gen.KernelIdeal.Frame
public import Idealize.ShloMosaic.Lib.Pipeline.ValueKit

@[expose] public section

set_option maxRecDepth 16384

noncomputable section

namespace Cert.Array0

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

/-- Where the blocks of the first pass lie. -/
theorem idx1 (t : Fin cfg0.N) : win0_1.index t 0 = 0 ∧ win0_1.index t 1 = t.val := by
  rcases fin_N0 t with rfl|rfl|rfl|rfl|rfl|rfl|rfl|rfl|rfl|rfl|rfl|rfl|rfl|rfl|rfl|rfl <;> decide +kernel
/-- Step `t` writes the ratios of block `t` of the columns. -/
theorem idx3 (t : Fin cfg0.N) : win0_3.index t 0 = 0 ∧ win0_3.index t 1 = t.val := by
  rcases fin_N0 t with rfl|rfl|rfl|rfl|rfl|rfl|rfl|rfl|rfl|rfl|rfl|rfl|rfl|rfl|rfl|rfl <;> decide +kernel
/-- Step `t` writes the labels of block `t` of the columns. -/
theorem idx4 (t : Fin cfg0.N) : win0_4.index t 0 = 0 ∧ win0_4.index t 1 = t.val := by
  rcases fin_N0 t with rfl|rfl|rfl|rfl|rfl|rfl|rfl|rfl|rfl|rfl|rfl|rfl|rfl|rfl|rfl|rfl <;> decide +kernel
/-- Every step reads all source features. -/
theorem idx0 (t : Fin cfg0.N) : win0_0.index t 0 = 0 ∧ win0_0.index t 1 = 0 := by
  rcases fin_N0 t with rfl|rfl|rfl|rfl|rfl|rfl|rfl|rfl|rfl|rfl|rfl|rfl|rfl|rfl|rfl|rfl <;> decide +kernel
/-- Every step reads all source labels. -/
theorem idx2 (t : Fin cfg0.N) : win0_2.index t 0 = 0 ∧ win0_2.index t 1 = 0 := by
  rcases fin_N0 t with rfl|rfl|rfl|rfl|rfl|rfl|rfl|rfl|rfl|rfl|rfl|rfl|rfl|rfl|rfl|rfl <;> decide +kernel

/-- Column `l` of block `t` is column `256 t + l` of the array. -/
def colAt (t : Fin cfg0.N) (l : Fin 256) : Fin 4096 := ⟨t.val * 256 + l.val, by have : t.val < 16 := lt_of_lt_of_eq t.isLt N_0; omega⟩

/-- The source features a step reads. -/
theorem blk0_apply (t : Fin cfg0.N) (i : Fin 4096) (d : Fin 64) : iblk0 V c 0 t (ix2 i d) = V c main_arg0 (ix2 i d) := by
  have h : ((cfg0.win 0).blk t).view.emb (ix2 i d) = ix2 i d := by
    refine Shape.idx_ext₂ ?_ ?_
    · show ((win0_0.rect t).emb (ix2 i d) 0 : Nat) = i.val
      rw [win0_0.rect_emb_val]; rw [(idx0 t).1]; simp
    · show ((win0_0.rect t).emb (ix2 i d) 1 : Nat) = d.val
      rw [win0_0.rect_emb_val]; rw [(idx0 t).2]; simp
  unfold iblk0
  rw [View.read_apply, h]; rfl

/-- The target features a step reads: those of its 256 columns. -/
theorem blk1_apply (t : Fin cfg0.N) (d : Fin 64) (l : Fin 256) :
    iblk0 V c 1 t (ix2 d l) = V c main_call0_v1 (ix2 d (colAt t l)) := by
  have h : ((cfg0.win 1).blk t).view.emb (ix2 d l) = ix2 d (colAt t l) := by
    refine Shape.idx_ext₂ ?_ ?_
    · show ((win0_1.rect t).emb (ix2 d l) 0 : Nat) = d.val
      rw [win0_1.rect_emb_val]; rw [(idx1 t).1]; simp
    · show ((win0_1.rect t).emb (ix2 d l) 1 : Nat) = t.val * 256 + l.val
      rw [win0_1.rect_emb_val]; rw [(idx1 t).2]; rfl
  unfold iblk0
  rw [View.read_apply, h]; rfl

/-- The source labels a step reads. -/
theorem blk2_apply (t : Fin cfg0.N) (i : Fin 4096) : iblk0 V c 2 t (ix2 i 0) = V c main_call0_v0 (ix2 i 0) := by
  have h : ((cfg0.win 2).blk t).view.emb (ix2 i 0) = ix2 i 0 := by
    refine Shape.idx_ext₂ ?_ ?_
    · show ((win0_2.rect t).emb (ix2 i 0) 0 : Nat) = i.val
      rw [win0_2.rect_emb_val]; rw [(idx2 t).1]; simp
    · show ((win0_2.rect t).emb (ix2 i 0) 1 : Nat) = 0
      rw [win0_2.rect_emb_val]; rw [(idx2 t).2]; rfl
  unfold iblk0
  rw [View.read_apply, h]; rfl

/-- Where a step writes its ratios. -/
theorem emb3 (t : Fin cfg0.N) (q : Fin 8) (l : Fin 256) :
    ((cfg0.win 3).blk t).view.emb (ix2 q l) = ix2 q (colAt t l) := by
  refine Shape.idx_ext₂ ?_ ?_
  · show ((win0_3.rect t).emb (ix2 q l) 0 : Nat) = q.val
    rw [win0_3.rect_emb_val]; rw [(idx3 t).1]; simp
  · show ((win0_3.rect t).emb (ix2 q l) 1 : Nat) = t.val * 256 + l.val
    rw [win0_3.rect_emb_val]; rw [(idx3 t).2]; rfl

/-- Where a step writes its labels. -/
theorem emb4 (t : Fin cfg0.N) (q : Fin 8) (l : Fin 256) :
    ((cfg0.win 4).blk t).view.emb (ix2 q l) = ix2 q (colAt t l) := by
  refine Shape.idx_ext₂ ?_ ?_
  · show ((win0_4.rect t).emb (ix2 q l) 0 : Nat) = q.val
    rw [win0_4.rect_emb_val]; rw [(idx4 t).1]; simp
  · show ((win0_4.rect t).emb (ix2 q l) 1 : Nat) = t.val * 256 + l.val
    rw [win0_4.rect_emb_val]; rw [(idx4 t).2]; rfl

section

variable {x y : Fin 4096 → Fin 64 → EReal} {ℓ : Fin 4096 → Nat} (hℓ : ∀ i, ℓ i < 64)
  (hx : ∀ i d, V c main_arg0 (ix2 i d) = x i d) (hy : ∀ d j, V c main_call0_v1 (ix2 d j) = y j d)
  (hl : ∀ i, V c main_call0_v0 (ix2 i 0) = BitVec.ofNat 32 (ℓ i))

/-- The similarities of a column depend only on the entries of the features. -/
theorem simCol_congr (x0 : Vec Ideal S4096x64 .f32) (x1 : Vec Ideal S64x256 .f32) (l : Fin 256) (j : Fin 4096)
    (h0 : ∀ i d, x0 (ix2 i d) = x i d) (h1 : ∀ d, x1 (ix2 d l) = y j d) :
    Pass1.simCol x0 x1 l = fun i => Spec.sim x y i j := by
  funext i
  unfold Pass1.simCol Spec.sim
  simp only [h0, h1]

include hx hy in
/-- The similarities of a column of a block are those of the column of the array it is. -/
theorem simCol_blk (t : Fin cfg0.N) (l : Fin 256) :
    Pass1.simCol (iblk0 V c 0 t) (iblk0 V c 1 t) l = fun i => Spec.sim x y i (colAt t l) :=
  simCol_congr _ _ _ _ (fun i d => (blk0_apply V c t i d).trans (hx i d)) (fun d => (blk1_apply V c t d l).trans (hy d _))

include hℓ hx hy hl in
/-- The first result of the first pass: at column j the ratio of column j, on each of its eight rows. -/
theorem arr3 : (dat0 V c).arrAt 3 cfg0.N = fun i : S8x4096.Idx =>
    Spec.ratio (fun k => Spec.sim x y k (i 1)) ℓ (Spec.assigned (fun k => Spec.sim x y k (i 1)) ℓ) := by
  refine (dat0 V c).arrAt_eq_of_covers 3 _ (by decide +kernel) fun t hf b => ?_
  blk_simp
  rw [after0_3]
  obtain ⟨q, l, rfl⟩ : ∃ (q : Fin 8) (l : Fin 256), b = ix2 q l := ⟨b 0, b 1, by ext a; fin_cases a <;> rfl⟩
  have := Pass1.out3_apply (iblk0 V c 0 t) (iblk0 V c 1 t) (iblk0 V c 2 t) ℓ hℓ (fun i => (blk2_apply V c t i).trans (hl i)) q l
  rw [simCol_blk V c hx hy] at this
  rw [emb3]
  exact this

include hℓ hx hy hl in
/-- The second result of the first pass: at column j the label assigned to column j. -/
theorem arr4 : (dat0 V c).arrAt 4 cfg0.N = fun i : S8x4096.Idx =>
    BitVec.ofNat 32 (Spec.assigned (fun k => Spec.sim x y k (i 1)) ℓ) := by
  refine (dat0 V c).arrAt_eq_of_covers 4 _ (by decide +kernel) fun t hf b => ?_
  blk_simp
  rw [after0_4]
  obtain ⟨q, l, rfl⟩ : ∃ (q : Fin 8) (l : Fin 256), b = ix2 q l := ⟨b 0, b 1, by ext a; fin_cases a <;> rfl⟩
  have := Pass1.out4_apply (iblk0 V c 0 t) (iblk0 V c 1 t) (iblk0 V c 2 t) ℓ hℓ (fun i => (blk2_apply V c t i).trans (hl i)) q l
  rw [simCol_blk V c hx hy] at this
  rw [emb4]
  exact this

end

end Cert.Array0

end
-- ==== Proof.Array1.lean ====
/-
  What the array of the ranking step holds when its 8 blocks of 512 columns are done: at column j one when fewer than 2048
  columns come before it in the order of the ratios, and zero otherwise.
-/
module

public import proofs.«01_k».proof.Proof.Pass1
public import proofs.«01_k».proof.Proof.Gen.KernelIdeal.Frame
public import Idealize.ShloMosaic.Lib.Pipeline.ValueKit

@[expose] public section

set_option maxRecDepth 16384

noncomputable section

namespace Cert.Array1

open Idealize.ShloMosaic Idealize.ShloMosaic.TcCoe Cert.KernelIdeal Cert.KernelIdeal.Gen Cert.Order

variable (V : (c : Dev nD) → (b : Ref sig .tc) → Buf (Elt Ideal) ((c : Thread nD τ).loc b)) (c : Dev nD)

/-- Step `t` reads block `t` of the ratios along the row. -/
theorem idx0 (t : Fin cfg1.N) : win1_0.index t 0 = 0 ∧ win1_0.index t 1 = t.val := by
  rcases fin_N1 t with rfl|rfl|rfl|rfl|rfl|rfl|rfl|rfl <;> decide +kernel
/-- Every step reads all ratios along the column. -/
theorem idx1 (t : Fin cfg1.N) : win1_1.index t 0 = 0 ∧ win1_1.index t 1 = 0 := by
  rcases fin_N1 t with rfl|rfl|rfl|rfl|rfl|rfl|rfl|rfl <;> decide +kernel
/-- Step `t` writes block `t` of the marks. -/
theorem idx2 (t : Fin cfg1.N) : win1_2.index t 0 = 0 ∧ win1_2.index t 1 = t.val := by
  rcases fin_N1 t with rfl|rfl|rfl|rfl|rfl|rfl|rfl|rfl <;> decide +kernel
/-- A step's coordinate in the grid is its number. -/
theorem coord (t : Fin cfg1.N) : (grid1.coords t 0).val = t.val := by
  rcases fin_N1 t with rfl|rfl|rfl|rfl|rfl|rfl|rfl|rfl <;> decide +kernel

/-- Column `l` of block `t` is column `512 t + l` of the array. -/
def colAt (t : Fin cfg1.N) (l : Fin 512) : Fin 4096 := ⟨t.val * 512 + l.val, by have : t.val < 8 := lt_of_lt_of_eq t.isLt N_1; omega⟩

/-- The ratios a step ranks: those of its 512 columns. -/
theorem blk0_apply (t : Fin cfg1.N) (q : Fin 8) (l : Fin 512) :
    iblk1 V c 0 t (ix2 q l) = V c main_call0_v2_0 (ix2 q (colAt t l)) := by
  have h : ((cfg1.win 0).blk t).view.emb (ix2 q l) = ix2 q (colAt t l) := by
    refine Shape.idx_ext₂ ?_ ?_
    · show ((win1_0.rect t).emb (ix2 q l) 0 : Nat) = q.val
      rw [win1_0.rect_emb_val]; rw [(idx0 t).1]; simp
    · show ((win1_0.rect t).emb (ix2 q l) 1 : Nat) = t.val * 512 + l.val
      rw [win1_0.rect_emb_val]; rw [(idx0 t).2]; rfl
  unfold iblk1
  rw [View.read_apply, h]; rfl

/-- The ratios a step compares with. -/
theorem blk1_apply (t : Fin cfg1.N) (i : Fin 4096) : iblk1 V c 1 t (ix2 i 0) = V c main_call0_v5 (ix2 i 0) := by
  have h : ((cfg1.win 1).blk t).view.emb (ix2 i 0) = ix2 i 0 := by
    refine Shape.idx_ext₂ ?_ ?_
    · show ((win1_1.rect t).emb (ix2 i 0) 0 : Nat) = i.val
      rw [win1_1.rect_emb_val]; rw [(idx1 t).1]; simp
    · show ((win1_1.rect t).emb (ix2 i 0) 1 : Nat) = 0
      rw [win1_1.rect_emb_val]; rw [(idx1 t).2]; rfl
  unfold iblk1
  rw [View.read_apply, h]; rfl

/-- Where a step writes its marks. -/
theorem emb2 (t : Fin cfg1.N) (q : Fin 8) (l : Fin 512) :
    ((cfg1.win 2).blk t).view.emb (ix2 q l) = ix2 q (colAt t l) := by
  refine Shape.idx_ext₂ ?_ ?_
  · show ((win1_2.rect t).emb (ix2 q l) 0 : Nat) = q.val
    rw [win1_2.rect_emb_val]; rw [(idx2 t).1]; simp
  · show ((win1_2.rect t).emb (ix2 q l) 1 : Nat) = t.val * 512 + l.val
    rw [win1_2.rect_emb_val]; rw [(idx2 t).2]; rfl

/-- A truth value, read as a number, is one or zero. -/
theorem oneOrZero (b : Bool) : FloatOps.sitofp (F := Ideal) .f32 ((BitVec.ofBool b).setWidth 32) = if b then (1 : EReal) else 0 := by
  cases b
  · show (((BitVec.setWidth 32 (BitVec.ofBool false)).toInt : ℝ) : EReal) = _
    simp
  · show (((BitVec.setWidth 32 (BitVec.ofBool true)).toInt : ℝ) : EReal) = _
    simp [show (BitVec.setWidth 32 (BitVec.ofBool true)).toInt = 1 from by decide]

/-- The conjunction of two conditions held as bits. -/
theorem andi_ofBool (a b : Bool) : IntOp.andi (BitVec.ofBool a) (BitVec.ofBool b) = BitVec.ofBool (a && b) := by
  cases a <;> cases b <;> rfl

/-- Comparing two small words. -/
theorem slt_ofNat (a b : Nat) (ha : a < 2 ^ 31) (hb : b < 2 ^ 31) :
    IntOp.cmpi .slt (BitVec.ofNat 32 a) (BitVec.ofNat 32 b) = BitVec.ofBool (decide (a < b)) := by
  show BitVec.ofBool (BitVec.slt _ _) = _
  rw [BitVec.slt, Words.toInt_ofNat ha, Words.toInt_ofNat hb]
  simp

/-- The word of a column from its block and its place there. -/
theorem colNo (a l : Nat) : IntOp.addi (Scalar.muli (BitVec.ofNat 32 a) 512#32) (BitVec.ofNat 32 l) = BitVec.ofNat 32 (a * 512 + l) := by
  show BitVec.ofNat 32 a * BitVec.ofNat 32 512 + BitVec.ofNat 32 l = _
  rw [← BitVec.ofNat_mul, ← BitVec.ofNat_add]

/-- The word of 2048. -/
theorem ofBits_2048 : Ideal.ofBits .f32 0x45000000#32 = ((2048 : ℕ) : EReal) := by
  simp [Ideal.ofBits, Ideal.ieee]
  rw [← EReal.coe_mul, show (8388608 : ℝ) * (2 ^ 12)⁻¹ = ((2048 : ℕ) : ℝ) from by norm_num]
  rfl

/-- The ranking step at a column: what it stores, from the ratios, at column `j`. -/
theorem pay_apply (i : grid1.Coords) (x0 : Vec Ideal S1x512 .f32) (x1 : Vec Ideal S4096x1 .f32) (g : Fin 4096 → EReal)
    (hg : ∀ k, x1 (ix2 k 0) = g k) (q : Fin 8) (l : Fin 512) (j : Fin 4096) (hj : j.val = (i 0).val * 512 + l.val)
    (h0 : x0 (ix2 0 l) = g j) : k1_pay1 i x0 x1 (ix2 q l) = Spec.chosen g j := by
  unfold k1_pay1
  pointwise []
  simp only [h0, hg, colNo, ← hj]
  have e : ∀ k : Fin 4096, IntOp.cmpi .slt (BitVec.ofNat 32 k.val) (BitVec.ofNat 32 j.val) = BitVec.ofBool (decide (k.val < j.val)) :=
    fun k => slt_ofNat _ _ (by have := k.isLt; omega) (by have := j.isLt; omega)
  simp only [e, andi_ofBool, oneOrZero, ofBits_2048]
  have h := sum_ahead g j
  unfold Spec.chosen
  have h' : (∑ k, ((if decide (g j < g k) = true then (1 : EReal) else 0) + (if (decide (g k = g j) && decide (k.val < j.val)) = true then 1 else 0)))
      = ((place g j).val : EReal) := by
    rw [← h]
    refine Finset.sum_congr rfl fun k _ => ?_
    simp only [decide_eq_true_eq, Bool.and_eq_true, Fin.lt_def]
  rw [h']
  simp only [decide_eq_true_eq, Nat.cast_lt]

section

variable {g : Fin 4096 → EReal} (h0 : ∀ q j, V c main_call0_v2_0 (ix2 q j) = g j)
  (h1 : ∀ i, V c main_call0_v5 (ix2 i 0) = g i)

include h0 h1 in
/-- The result of the ranking step: at column j, whether the column is chosen, on each of its eight rows. -/
theorem arr2 : (dat1 V c).arrAt 2 cfg1.N = fun i : S8x4096.Idx => Spec.chosen g (i 1) := by
  refine (dat1 V c).arrAt_eq_of_covers 2 _ (by decide +kernel) fun t hf b => ?_
  blk_simp
  rw [after1_2]
  obtain ⟨q, l, rfl⟩ : ∃ (q : Fin 8) (l : Fin 512), b = ix2 q l := ⟨b 0, b 1, by ext a; fin_cases a <;> rfl⟩
  rw [emb2]
  unfold out1_2
  rw [View.canon_unit_zero Pass1.zero2, View.ld_unit_zero Pass1.zero2]
  refine pay_apply _ _ _ g (fun k => (blk1_apply V c t k).trans (h1 k)) q l (colAt t l) ?_ ?_
  · rw [coord]; rfl
  · show View.ld (iblk1 V c 0 t) r1_0 (ix2 0 l) = _
    have : View.ld (iblk1 V c 0 t) r1_0 (ix2 0 l) = iblk1 V c 0 t (ix2 0 l) := by
      show iblk1 V c 0 t _ = _
      congr 1
      refine Shape.idx_ext₂ ?_ ?_ <;> simp [r1_0, Rect.unit, ix2]
    rw [this, blk0_apply, h0]

end

end Cert.Array1

end
-- ==== Proof.Pass2.lean ====
/-
  What the last pass computes from a block of 256 rows: what the rows add to the loss, and how many of them take part.
-/
module

public import proofs.«01_k».proof.Proof.Pass1
public import proofs.«01_k».proof.Proof.Array1

@[expose] public section

set_option maxRecDepth 16384

noncomputable section

namespace Cert.Pass2

open Idealize.ShloMosaic Cert.KernelIdeal Cert.KernelIdeal.Gen

/-- Comparing two words for equality. -/
theorem ofBool_eq (x y : BitVec 32) : IntOp.cmpi .eq x y = BitVec.ofBool (decide (x = y)) := by
  show BitVec.ofBool _ = _
  rw [beq_eq_decide]

/-- A selection by a condition held as a bit. -/
theorem select_ofBool {α : Type} (p : Prop) [Decidable p] (a b : α) :
    Scalar.select (BitVec.ofBool (decide p)) a b = if p then a else b := by
  by_cases h : p <;> simp [Scalar.select, h]

/-- Whether the labels of a row and a column agree. -/
theorem match_apply (x2 : Vec Ideal S256x1 .i32) (v27 : Vec Ideal S1x4096 .i32) (b a : Nat) (r : Fin 256) (j : Fin 4096)
    (hb : x2 (ix2 r 0) = BitVec.ofNat 32 b) (ha : v27 (ix2 0 j) = BitVec.ofNat 32 a) (hb' : b < 64) (ha' : a < 64) :
    k2_pay2 (F := Ideal) x2 v27 (ix2 r j) = Spec.hit b a := by
  unfold k2_pay2
  pointwise []
  rw [hb, ha, ofBool_eq, Array1.oneOrZero]
  unfold Spec.hit
  simp only [decide_eq_true_eq]
  by_cases h : b = a
  · rw [if_pos h, if_pos (congrArg _ h)]
  · rw [if_neg h, if_neg fun e => h (Words.ofNat_inj (by omega) (by omega) e)]

/-- The weight of a column for a row. -/
theorem weight_apply (x0 : Vec Ideal S256x64 .f32) (x1 : Vec Ideal S64x4096 .f32) (v25 : Vec Ideal S1x4096 .f32) (r : Fin 256) (j : Fin 4096) :
    k2_pay3 x0 x1 v25 (ix2 r j)
      = Ideal.exp (Spec.sim (fun i d => x0 (ix2 i d)) (fun c d => x1 (ix2 d c)) r j) * v25 (ix2 0 j) := by
  unfold k2_pay3
  pointwise [k2_pay1]
  unfold Spec.sim Spec.simOf
  rw [Ideal.ofBits_one_f32]

/-- The sum of a row's weights. -/
theorem den_apply (x0 : Vec Ideal S256x64 .f32) (x1 : Vec Ideal S64x4096 .f32) (v25 : Vec Ideal S1x4096 .f32) (r : Fin 256) :
    k2_pay4 x0 x1 v25 (ix2 r 0) = ∑ j, k2_pay3 x0 x1 v25 (ix2 r j) := by
  unfold k2_pay4
  pointwise []

/-- Whether a row of the block takes part. -/
theorem valid_apply (v26 : FVec Ideal S1x4096 .f32) (v33 : FVec Ideal S256x4096 .f32) (r : Fin 256) :
    k2_pay6 v26 v33 (ix2 r 0) = BitVec.ofBool (decide (0 < (∑ j, v26 (ix2 0 j) * v33 (ix2 r j)) ∧ 0 < ∑ j, v26 (ix2 0 j) * (1 - v33 (ix2 r j)))) := by
  unfold k2_pay6
  pointwise []
  rw [Array1.andi_ofBool, Bool.decide_and]

/-- The block adds to the loss the logarithms of the shares of its rows that take part. -/
theorem loss_apply (v26 : FVec Ideal S1x4096 .f32) (v33 : FVec Ideal S256x4096 .f32) (v38 : FVec Ideal S256x1 .f32)
    (v39 : FVec Ideal S256x4096 .f32) (v64 : EReal) :
    k2_pay7 v26 v33 v38 v39 v64
      = v64 + ∑ r : Fin 256, Scalar.select (k2_pay6 v26 v33 (ix2 r 0)) (Ideal.log (Ideal.div (∑ j, v39 (ix2 r j)) (v38 (ix2 r 0)))) 0 := by
  unfold k2_pay7
  pointwise []
  simp only [Finset.univ_unique, Finset.sum_singleton]

/-- The block adds to the count the number of its rows that take part. -/
theorem count_apply (v26 : FVec Ideal S1x4096 .f32) (v33 : FVec Ideal S256x4096 .f32) (v71 : EReal) :
    k2_pay8 v26 v33 v71
      = v71 + ∑ r : Fin 256, FloatOps.sitofp (F := Ideal) .f32 ((k2_pay6 v26 v33 (ix2 r 0)).setWidth 32) := by
  unfold k2_pay8
  pointwise []
  simp only [Finset.univ_unique, Finset.sum_singleton]

section Block

variable (x0 : Vec Ideal S256x64 .f32) (x1 : Vec Ideal S64x4096 .f32) (x2 : Vec Ideal S256x1 .i32) (v25 : Vec Ideal S1x4096 .f32)
  (v27 : Vec Ideal S1x4096 .i32) {c : Fin 4096 → EReal} {a : Fin 4096 → Nat} {b : Fin 256 → Nat}
  (hc : ∀ j, v25 (ix2 0 j) = c j) (ha : ∀ j, v27 (ix2 0 j) = BitVec.ofNat 32 (a j)) (hb : ∀ r, x2 (ix2 r 0) = BitVec.ofNat 32 (b r))
  (ha' : ∀ j, a j < 64) (hb' : ∀ r, b r < 64)

include hc ha hb ha' hb'

/-- Whether a row takes part. -/
theorem valid_row (r : Fin 256) : k2_pay6 (k2_pay1 v25) (k2_pay2 (F := Ideal) x2 v27) (ix2 r 0) = BitVec.ofBool (decide (Spec.Valid c a (b r))) := by
  rw [valid_apply]
  have e1 : ∀ j, k2_pay1 v25 (ix2 0 j) = c j := fun j => by
    rw [← hc]; pointwise [k2_pay1]
  simp only [e1, fun j => match_apply x2 v27 (b r) (a j) r j (hb r) (ha j) (hb' r) (ha' j)]
  refine congrArg _ (decide_eq_decide.mpr Iff.rfl)

/-- What a block of rows adds to the loss. -/
theorem loss_block (v : EReal) :
    k2_pay7 (k2_pay1 v25) (k2_pay2 (F := Ideal) x2 v27) (k2_pay4 x0 x1 v25) (k2_pay5 x0 x1 x2 v25 v27) v
      = v + ∑ r : Fin 256, Spec.term (fun j => Spec.sim (fun i d => x0 (ix2 i d)) (fun c d => x1 (ix2 d c)) r j) c a (b r) := by
  rw [loss_apply]
  refine congrArg (v + ·) (Finset.sum_congr rfl fun r _ => ?_)
  rw [valid_row x2 v25 v27 hc ha hb ha' hb', select_ofBool]
  unfold Spec.term
  have e5 : ∀ j, k2_pay5 x0 x1 x2 v25 v27 (ix2 r j) = k2_pay3 x0 x1 v25 (ix2 r j) * k2_pay2 (F := Ideal) x2 v27 (ix2 r j) := fun j => by
    unfold k2_pay5; pointwise []
  simp only [den_apply, e5, weight_apply, hc, fun j => match_apply x2 v27 (b r) (a j) r j (hb r) (ha j) (hb' r) (ha' j)]

/-- How many rows of a block take part. -/
theorem count_block (v : EReal) :
    k2_pay8 (k2_pay1 v25) (k2_pay2 (F := Ideal) x2 v27) v
      = v + ∑ r : Fin 256, if Spec.Valid c a (b r) then (1 : EReal) else 0 := by
  rw [count_apply]
  refine congrArg (v + ·) (Finset.sum_congr rfl fun r _ => ?_)
  rw [valid_row x2 v25 v27 hc ha hb ha' hb', Array1.oneOrZero]
  simp only [decide_eq_true_eq]

end Block

end Cert.Pass2

end
-- ==== Proof.Array2.lean ====
/-
  What the two one-entry arrays of the last pass hold when its 16 blocks of 256 rows are done: the sum of what the rows add
  to the loss, and the number of rows that take part.
-/
module

public import proofs.«01_k».proof.Proof.Pass2
public import proofs.«01_k».proof.Proof.Gen.KernelIdeal.Frame
public import Idealize.ShloMosaic.Lib.Pipeline.ValueKit

@[expose] public section

set_option maxRecDepth 16384

noncomputable section

namespace Cert.Array2

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

/-- Step `t` reads block `t` of the source features. -/
theorem idx0 (t : Fin cfg2.N) : win2_0.index t 0 = t.val ∧ win2_0.index t 1 = 0 := by
  rcases fin_N2 t with rfl|rfl|rfl|rfl|rfl|rfl|rfl|rfl|rfl|rfl|rfl|rfl|rfl|rfl|rfl|rfl <;> decide +kernel
/-- Every step reads all target features. -/
theorem idx1 (t : Fin cfg2.N) : win2_1.index t 0 = 0 ∧ win2_1.index t 1 = 0 := by
  rcases fin_N2 t with rfl|rfl|rfl|rfl|rfl|rfl|rfl|rfl|rfl|rfl|rfl|rfl|rfl|rfl|rfl|rfl <;> decide +kernel
/-- Step `t` reads block `t` of the source labels. -/
theorem idx2 (t : Fin cfg2.N) : win2_2.index t 0 = t.val ∧ win2_2.index t 1 = 0 := by
  rcases fin_N2 t with rfl|rfl|rfl|rfl|rfl|rfl|rfl|rfl|rfl|rfl|rfl|rfl|rfl|rfl|rfl|rfl <;> decide +kernel
/-- Every step reads all marks. -/
theorem idx3 (t : Fin cfg2.N) : win2_3.index t 0 = 0 ∧ win2_3.index t 1 = 0 := by
  rcases fin_N2 t with rfl|rfl|rfl|rfl|rfl|rfl|rfl|rfl|rfl|rfl|rfl|rfl|rfl|rfl|rfl|rfl <;> decide +kernel
/-- Every step reads all assigned labels. -/
theorem idx4 (t : Fin cfg2.N) : win2_4.index t 0 = 0 ∧ win2_4.index t 1 = 0 := by
  rcases fin_N2 t with rfl|rfl|rfl|rfl|rfl|rfl|rfl|rfl|rfl|rfl|rfl|rfl|rfl|rfl|rfl|rfl <;> decide +kernel

/-- Row `r` of block `t` is row `256 t + r` of the array. -/
def rowAt (t : Fin cfg2.N) (r : Fin 256) : Fin 4096 := ⟨t.val * 256 + r.val, by have : t.val < 16 := lt_of_lt_of_eq t.isLt N_2; omega⟩

/-- The source features a step reads: those of its 256 rows. -/
theorem blk0_apply (t : Fin cfg2.N) (r : Fin 256) (d : Fin 64) :
    iblk2 V c 0 t (ix2 r d) = V c main_arg0 (ix2 (rowAt t r) d) := by
  have h : ((cfg2.win 0).blk t).view.emb (ix2 r d) = ix2 (rowAt t r) d := by
    refine Shape.idx_ext₂ ?_ ?_
    · show ((win2_0.rect t).emb (ix2 r d) 0 : Nat) = t.val * 256 + r.val
      rw [win2_0.rect_emb_val]; rw [(idx0 t).1]; rfl
    · show ((win2_0.rect t).emb (ix2 r d) 1 : Nat) = d.val
      rw [win2_0.rect_emb_val]; rw [(idx0 t).2]; simp
  unfold iblk2
  rw [View.read_apply, h]; rfl

/-- The target features a step reads. -/
theorem blk1_apply (t : Fin cfg2.N) (d : Fin 64) (j : Fin 4096) :
    iblk2 V c 1 t (ix2 d j) = V c main_call0_v1 (ix2 d j) := by
  have h : ((cfg2.win 1).blk t).view.emb (ix2 d j) = ix2 d j := by
    refine Shape.idx_ext₂ ?_ ?_
    · show ((win2_1.rect t).emb (ix2 d j) 0 : Nat) = d.val
      rw [win2_1.rect_emb_val]; rw [(idx1 t).1]; simp
    · show ((win2_1.rect t).emb (ix2 d j) 1 : Nat) = j.val
      rw [win2_1.rect_emb_val]; rw [(idx1 t).2]; simp
  unfold iblk2
  rw [View.read_apply, h]; rfl

/-- The source labels a step reads: those of its 256 rows. -/
theorem blk2_apply (t : Fin cfg2.N) (r : Fin 256) :
    iblk2 V c 2 t (ix2 r 0) = V c main_call0_v0 (ix2 (rowAt t r) 0) := by
  have h : ((cfg2.win 2).blk t).view.emb (ix2 r 0) = ix2 (rowAt t r) 0 := by
    refine Shape.idx_ext₂ ?_ ?_
    · show ((win2_2.rect t).emb (ix2 r 0) 0 : Nat) = t.val * 256 + r.val
      rw [win2_2.rect_emb_val]; rw [(idx2 t).1]; rfl
    · show ((win2_2.rect t).emb (ix2 r 0) 1 : Nat) = 0
      rw [win2_2.rect_emb_val]; rw [(idx2 t).2]; rfl
  unfold iblk2
  rw [View.read_apply, h]; rfl

/-- The marks a step reads. -/
theorem blk3_apply (t : Fin cfg2.N) (q : Fin 8) (j : Fin 4096) :
    iblk2 V c 3 t (ix2 q j) = V c main_call0_v6 (ix2 q j) := by
  have h : ((cfg2.win 3).blk t).view.emb (ix2 q j) = ix2 q j := by
    refine Shape.idx_ext₂ ?_ ?_
    · show ((win2_3.rect t).emb (ix2 q j) 0 : Nat) = q.val
      rw [win2_3.rect_emb_val]; rw [(idx3 t).1]; simp
    · show ((win2_3.rect t).emb (ix2 q j) 1 : Nat) = j.val
      rw [win2_3.rect_emb_val]; rw [(idx3 t).2]; simp
  unfold iblk2
  rw [View.read_apply, h]; rfl

/-- The assigned labels a step reads. -/
theorem blk4_apply (t : Fin cfg2.N) (q : Fin 8) (j : Fin 4096) :
    iblk2 V c 4 t (ix2 q j) = V c main_call0_v2_1 (ix2 q j) := by
  have h : ((cfg2.win 4).blk t).view.emb (ix2 q j) = ix2 q j := by
    refine Shape.idx_ext₂ ?_ ?_
    · show ((win2_4.rect t).emb (ix2 q j) 0 : Nat) = q.val
      rw [win2_4.rect_emb_val]; rw [(idx4 t).1]; simp
    · show ((win2_4.rect t).emb (ix2 q j) 1 : Nat) = j.val
      rw [win2_4.rect_emb_val]; rw [(idx4 t).2]; simp
  unfold iblk2
  rw [View.read_apply, h]; rfl

/-- Loading the first row of an array of eight. -/
theorem ld_row {e : EltTy} (X : Vec Ideal S8x4096 e) (j : Fin 4096) :
    View.ld X (Rect.unit ![0, 0] ![1, 4096] inb_S8x4096_S1x4096_0_0) (ix2 0 j) = X (ix2 0 j) := by
  show X _ = _
  congr 1
  refine Shape.idx_ext₂ ?_ ?_ <;> simp [Rect.unit, ix2]

/-- An array of one entry has one index. -/
theorem one_idx (i j : S1x1.Idx) : i = j := by
  have h0 : (i 0).val < 1 := (i 0).isLt
  have h1 : (i 1).val < 1 := (i 1).isLt
  have g0 : (j 0).val < 1 := (j 0).isLt
  have g1 : (j 1).val < 1 := (j 1).isLt
  exact Shape.idx_ext₂ (by omega) (by omega)

/-- A load of an array of one entry is that entry. -/
theorem ld_one (X : Vec Ideal S1x1 .f32) (i j : S1x1.Idx) : View.ld X (Rect.unit ![0, 0] ![1, 1] inb_S1x1_S1x1_0_0) i = X j :=
  congrArg X (one_idx _ _)

section

variable {x y : Fin 4096 → Fin 64 → EReal} {ℓ a : Fin 4096 → Nat} {ch : Fin 4096 → EReal}
  (hℓ : ∀ i, ℓ i < 64) (ha' : ∀ j, a j < 64)
  (hx : ∀ i d, V c main_arg0 (ix2 i d) = x i d) (hy : ∀ d j, V c main_call0_v1 (ix2 d j) = y j d)
  (hl : ∀ i, V c main_call0_v0 (ix2 i 0) = BitVec.ofNat 32 (ℓ i))
  (hc : ∀ q j, V c main_call0_v6 (ix2 q j) = ch j)
  (ha : ∀ q j, V c main_call0_v2_1 (ix2 q j) = BitVec.ofNat 32 (a j))

/-- The similarities of a row depend only on the entries of the features. -/
theorem sim_congr (x0 : Vec Ideal S256x64 .f32) (x1 : Vec Ideal S64x4096 .f32) (r : Fin 256) (i : Fin 4096)
    (h0 : ∀ d, x0 (ix2 r d) = x i d) (h1 : ∀ d j, x1 (ix2 d j) = y j d) (j : Fin 4096) :
    Spec.sim (fun i d => x0 (ix2 i d)) (fun c d => x1 (ix2 d c)) r j = Spec.sim x y i j := by
  unfold Spec.sim
  simp only [h0, h1]

include hℓ ha' hx hy hl hc ha

/-- A block's contribution to the loss is the sum of its rows'. -/
theorem loss_pt (t : Fin cfg2.N) (v : EReal) :
    k2_pay7 (k2_pay1 (View.ld (iblk2 V c 3 t) (Rect.unit ![0, 0] ![1, 4096] inb_S8x4096_S1x4096_0_0)))
      (k2_pay2 (F := Ideal) (iblk2 V c 2 t) (View.ld (iblk2 V c 4 t) (Rect.unit ![0, 0] ![1, 4096] inb_S8x4096_S1x4096_0_0)))
      (k2_pay4 (iblk2 V c 0 t) (iblk2 V c 1 t)
        (View.ld (iblk2 V c 3 t) (Rect.unit ![0, 0] ![1, 4096] inb_S8x4096_S1x4096_0_0)))
      (k2_pay5 (iblk2 V c 0 t) (iblk2 V c 1 t) (iblk2 V c 2 t)
        (View.ld (iblk2 V c 3 t) (Rect.unit ![0, 0] ![1, 4096] inb_S8x4096_S1x4096_0_0))
        (View.ld (iblk2 V c 4 t) (Rect.unit ![0, 0] ![1, 4096] inb_S8x4096_S1x4096_0_0))) v
      = v + ∑ r : Fin 256, Spec.term (Spec.sim x y (rowAt t r)) ch a (ℓ (rowAt t r)) := by
  refine (Pass2.loss_block (iblk2 V c 0 t) (iblk2 V c 1 t) (iblk2 V c 2 t) _ _ (c := ch) (a := a) (b := fun r => ℓ (rowAt t r))
    (fun j => (ld_row _ j).trans ((blk3_apply V c t 0 j).trans (hc 0 j)))
    (fun j => (ld_row _ j).trans ((blk4_apply V c t 0 j).trans (ha 0 j)))
    (fun r => (blk2_apply V c t r).trans (hl _)) ha' (fun r => hℓ _) v).trans ?_
  refine congrArg (v + ·) (Finset.sum_congr rfl fun r _ => ?_)
  refine congrArg (fun s => Spec.term s ch a (ℓ (rowAt t r))) (funext fun j => ?_)
  exact sim_congr _ _ r (rowAt t r) (fun d => (blk0_apply V c t r d).trans (hx _ d)) (fun d j => (blk1_apply V c t d j).trans (hy d j)) j

/-- A step adds the number of its rows that take part. -/
theorem count_pt (t : Fin cfg2.N) (v : EReal) :
    k2_pay8 (k2_pay1 (View.ld (iblk2 V c 3 t) (Rect.unit ![0, 0] ![1, 4096] inb_S8x4096_S1x4096_0_0)))
      (k2_pay2 (F := Ideal) (iblk2 V c 2 t) (View.ld (iblk2 V c 4 t) (Rect.unit ![0, 0] ![1, 4096] inb_S8x4096_S1x4096_0_0))) v
      = v + ∑ r : Fin 256, if Spec.Valid ch a (ℓ (rowAt t r)) then (1 : EReal) else 0 :=
  Pass2.count_block (iblk2 V c 2 t) _ _ (c := ch) (a := a) (b := fun r => ℓ (rowAt t r))
    (fun j => (ld_row _ j).trans ((blk3_apply V c t 0 j).trans (hc 0 j)))
    (fun j => (ld_row _ j).trans ((blk4_apply V c t 0 j).trans (ha 0 j)))
    (fun r => (blk2_apply V c t r).trans (hl _)) ha' (fun r => hℓ _) v

/-- After the last block the first array holds the sum of what the rows add to the loss. -/
theorem after5 (j : S1x1.Idx) : (outsAt2 V c t2_15.val t2_15.isLt).1 j = ∑ i, Spec.term (Spec.sim x y i) ch a (ℓ i) := by
  rw [Pipeline.eq_sum_fin_of_reset_step_apply_last (fun n h => (outsAt2 V c n h).1) 16 (fun _ => (0 : EReal))
    (fun t _ => ∑ r : Fin 256, Spec.term (Spec.sim x y (rowAt t r)) ch a (ℓ (rowAt t r)))
    (fun t h j => by
      rw [outsAt2_A V c t h]
      frame_out
      exact (loss_pt V c hℓ ha' hx hy hl hc ha t _).trans (congrArg (· + _) Ideal.ofBits_zero_f32))
    (fun t h j => by
      rw [outsAt2_B V c t h]
      frame_out
      exact (loss_pt V c hℓ ha' hx hy hl hc ha t _).trans (congrArg (· + _) (ld_one _ _ j)))
    (le_of_eq N_2) t2_15 rfl j, zero_add]
  exact Fin.sum_mul_add_fin cfg2.N 256 (fun i : Fin 4096 => Spec.term (Spec.sim x y i) ch a (ℓ i)) (by rw [show cfg2.N = 16 from N_2])

/-- After the last block the second array holds the number of rows that take part. -/
theorem after6 (j : S1x1.Idx) :
    (outsAt2 V c t2_15.val t2_15.isLt).2 j = ∑ i, if Spec.Valid ch a (ℓ i) then (1 : EReal) else 0 := by
  rw [Pipeline.eq_sum_fin_of_reset_step_apply_last (fun n h => (outsAt2 V c n h).2) 16 (fun _ => (0 : EReal))
    (fun t _ => ∑ r : Fin 256, if Spec.Valid ch a (ℓ (rowAt t r)) then (1 : EReal) else 0)
    (fun t h j => by
      rw [outsAt2_A V c t h]
      frame_out
      exact (count_pt V c hℓ ha' hx hy hl hc ha t _).trans (congrArg (· + _) Ideal.ofBits_zero_f32))
    (fun t h j => by
      rw [outsAt2_B V c t h]
      frame_out
      exact (count_pt V c hℓ ha' hx hy hl hc ha t _).trans (congrArg (· + _) (ld_one _ _ j)))
    (le_of_eq N_2) t2_15 rfl j, zero_add]
  exact Fin.sum_mul_add_fin cfg2.N 256 (fun i : Fin 4096 => if Spec.Valid ch a (ℓ i) then (1 : EReal) else 0) (by rw [show cfg2.N = 16 from N_2])

/-- The first result of the last pass. -/
theorem arr5 : (dat2 V c).arrAt 5 cfg2.N = fun _ : S1x1.Idx => ∑ i, Spec.term (Spec.sim x y i) ch a (ℓ i) := by
  refine (dat2 V c).arrAt_eq_of_after_last 5 t2_15 (by decide +kernel) _ fun j => ?_
  blk_simp
  rw [after2_5]
  exact after5 V c hℓ ha' hx hy hl hc ha _

/-- The second result of the last pass. -/
theorem arr6 : (dat2 V c).arrAt 6 cfg2.N = fun _ : S1x1.Idx => ∑ i, if Spec.Valid ch a (ℓ i) then (1 : EReal) else 0 := by
  refine (dat2 V c).arrAt_eq_of_after_last 6 t2_15 (by decide +kernel) _ fun j => ?_
  blk_simp
  rw [after2_6]
  exact after6 V c hℓ ha' hx hy hl hc ha _

end

end Cert.Array2

end
-- ==== Proof.KernelValue.lean ====
/-
  What the kernel's program leaves in its result array: the loss of the features and labels it is given.
-/
module

public import proofs.«01_k».proof.Proof.Array0
public import proofs.«01_k».proof.Proof.Array1
public import proofs.«01_k».proof.Proof.Array2
public import Idealize.ShloMosaic.Lib.StableHlo.Run

@[expose] public section

set_option maxRecDepth 16384

noncomputable section

namespace Cert.KernelValue

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The source features, the target features and the source labels the program is launched with. -/
def src (i : Fin 4096) (d : Fin 64) : EReal := m ((c : Thread nD τ).loc main_arg0) (ix2 i d)
/-- The target features. -/
def tgt (j : Fin 4096) (d : Fin 64) : EReal := m ((c : Thread nD τ).loc main_arg2) (ix2 j d)
/-- The source labels. -/
def lab (i : Fin 4096) : BitVec 32 := m ((c : Thread nD τ).loc main_arg1) (ix1 i)

/-- The source features before the first pass. -/
theorem V1_arg0 (i : Fin 4096) (d : Fin 64) : V1 m ρ c main_arg0 (ix2 i d) = src m c i d :=
  congrFun (W1_args m ρ c main_arg0 (by decide)) _

/-- The source labels, as a column, before the first pass. -/
theorem V1_lab (i : Fin 4096) : V1 m ρ c main_call0_v0 (ix2 i 0) = lab m c i := by
  have h : V1 m ρ c main_call0_v0 = shapeCast S4096x1 (W0 m ρ c (Proc.devRef .tc main_arg1)) shapeCasts_S4096_S4096x1 := by
    show StableHlo.after hostOps0 (W0 m ρ c) (Proc.devRef .tc main_call0_v0) = _
    after_results
    try rfl
  rw [h]
  pointwise []
  rfl

/-- The target features, transposed, before the first pass. -/
theorem V1_tgt (d : Fin 64) (j : Fin 4096) : V1 m ρ c main_call0_v1 (ix2 d j) = tgt m c j d := by
  have h : V1 m ρ c main_call0_v1 = transpose S64x4096 [1, 0] (W0 m ρ c (Proc.devRef .tc main_arg2)) transposes_S4096x64_S64x4096_1_0 := by
    show StableHlo.after hostOps0 (W0 m ρ c) (Proc.devRef .tc main_call0_v1) = _
    after_results
    try rfl
  rw [h]
  pointwise []
  rfl

/-- Between the first pass and the ranking the first row of the ratios is laid out as a column. -/
theorem V3_col (i : Fin 4096) : V3 m ρ c main_call0_v5 (ix2 i 0) = V2 m ρ c main_call0_v2_0 (ix2 0 i) := by
  have h : V3 m ρ c main_call0_v5 = shapeCast S4096x1 (shapeCast S4096 (extractStridedSlice S1x4096 ![0, 0] (W2 m ρ c (Proc.devRef .tc main_call0_v2_0))
      slices_S8x4096_S1x4096_0_0) shapeCasts_S1x4096_S4096) shapeCasts_S4096_S4096x1 := by
    show StableHlo.after hostOps1 (W2 m ρ c) (Proc.devRef .tc main_call0_v5) = _
    after_results
    try rfl
  rw [h]
  pointwise []
  try rfl

/-- After the last pass the two sums are combined. -/
theorem W6_result {t v : EReal} (h5 : W5 m ρ c (Proc.devRef .tc main_call0_v7_0) = fun _ : S1x1.Idx => t)
    (h6 : W5 m ρ c (Proc.devRef .tc main_call0_v7_1) = fun _ : S1x1.Idx => v) :
    W6 m ρ c (Proc.devRef .tc main_v0) = fun _ => Ideal.div (-t) (max v 1) := by
  have h : W6 m ρ c (Proc.devRef .tc main_v0) = Host.divf (Host.negf (shapeCast S_ (W5 m ρ c (Proc.devRef .tc main_call0_v7_0)) shapeCasts_S1x1_S_))
      (maximumf (F := Ideal) (φ := .f32) (shapeCast S_ (W5 m ρ c (Proc.devRef .tc main_call0_v7_1)) shapeCasts_S1x1_S_) (constant S_ .f32 0x3F800000#32)) := by
    show StableHlo.after hostOps3 (W5 m ρ c) (Proc.devRef .tc main_v0) = _
    after_results
    try rfl
  rw [h, h5, h6]
  funext i
  pointwise []

section Run

variable {ℓ : Fin 4096 → Nat} (hℓ : ∀ i, ℓ i < 64) (hl : ∀ i, lab m c i = BitVec.ofNat 32 (ℓ i))

include hℓ hl

/-- The ratios and the assigned labels, as the first pass leaves them. -/
theorem V2_ratio : V2 m ρ c main_call0_v2_0 = fun i : S8x4096.Idx =>
    Spec.ratio (fun k => Spec.sim (src m c) (tgt m c) k (i 1)) ℓ (Spec.assigned (fun k => Spec.sim (src m c) (tgt m c) k (i 1)) ℓ) :=
  (W2_arr m ρ c 3).trans (Array0.arr3 (V1 m ρ) c hℓ (V1_arg0 m ρ c) (V1_tgt m ρ c) fun i => (V1_lab m ρ c i).trans (hl i))
/-- The assigned labels after the first pass. -/
theorem V2_assigned : V2 m ρ c main_call0_v2_1 = fun i : S8x4096.Idx =>
    BitVec.ofNat 32 (Spec.assigned (fun k => Spec.sim (src m c) (tgt m c) k (i 1)) ℓ) :=
  (W2_arr m ρ c 4).trans (Array0.arr4 (V1 m ρ) c hℓ (V1_arg0 m ρ c) (V1_tgt m ρ c) fun i => (V1_lab m ρ c i).trans (hl i))

/-- The chosen columns, as the second pass leaves them. -/
theorem V4_chosen : V4 m ρ c main_call0_v6 = fun i : S8x4096.Idx =>
    Spec.chosen (fun j => Spec.ratio (fun k => Spec.sim (src m c) (tgt m c) k j) ℓ (Spec.assigned (fun k => Spec.sim (src m c) (tgt m c) k j) ℓ)) (i 1) :=
  (W4_arr m ρ c 2).trans (Array1.arr2 (V3 m ρ) c
    (fun q j => (congrFun (W3_of m ρ c main_call0_v2_0 (by decide)) _).trans (congrFun (V2_ratio m ρ c hℓ hl) _))
    fun i => (V3_col m ρ c i).trans (congrFun (V2_ratio m ρ c hℓ hl) _))

/-- The program leaves the loss in its result array. -/
theorem W6_value : W6 m ρ c (Proc.devRef .tc main_v0) = fun _ => Spec.result (src m c) (tgt m c) ℓ := by
  have hx : ∀ i d, V4 m ρ c main_arg0 (ix2 i d) = src m c i d := fun i d =>
    (congrFun ((W4_of m ρ c main_arg0 (by decide)).trans ((W3_of m ρ c main_arg0 (by decide)).trans (W2_of m ρ c main_arg0 (by decide)))) _).trans
      (V1_arg0 m ρ c i d)
  have hy : ∀ d j, V4 m ρ c main_call0_v1 (ix2 d j) = tgt m c j d := fun d j =>
    (congrFun ((W4_of m ρ c main_call0_v1 (by decide)).trans ((W3_of m ρ c main_call0_v1 (by decide)).trans (W2_of m ρ c main_call0_v1 (by decide)))) _).trans
      (V1_tgt m ρ c d j)
  have hb : ∀ i, V4 m ρ c main_call0_v0 (ix2 i 0) = BitVec.ofNat 32 (ℓ i) := fun i =>
    (congrFun ((W4_of m ρ c main_call0_v0 (by decide)).trans ((W3_of m ρ c main_call0_v0 (by decide)).trans (W2_of m ρ c main_call0_v0 (by decide)))) _).trans
      ((V1_lab m ρ c i).trans (hl i))
  have ha : ∀ q j, V4 m ρ c main_call0_v2_1 (ix2 q j) = BitVec.ofNat 32 (Spec.assigned (fun k => Spec.sim (src m c) (tgt m c) k j) ℓ) := fun q j =>
    (congrFun ((W4_of m ρ c main_call0_v2_1 (by decide)).trans (W3_of m ρ c main_call0_v2_1 (by decide))) _).trans
      (congrFun (V2_assigned m ρ c hℓ hl) _)
  have hc := fun q j => congrFun (V4_chosen m ρ c hℓ hl) (ix2 q j)
  have ha' : ∀ j, Spec.assigned (fun k => Spec.sim (src m c) (tgt m c) k j) ℓ < 64 := fun j => Pass1.assigned_lt ℓ _ hℓ
  exact W6_result m ρ c ((W5_arr m ρ c 5).trans (Array2.arr5 (V4 m ρ) c hℓ ha' hx hy hb hc ha))
    ((W5_arr m ρ c 6).trans (Array2.arr6 (V4 m ρ) c hℓ ha' hx hy hb hc ha))
end Run

end Cert.KernelValue

end
-- ==== Proof.RefOps.lean ====
/-
  The reference's sorts and gathers at an index: an argsort of negated entries lists the greatest first, the greatest
  entries of a row are the row's list, and a gather at a position kept as a word reads that position.
-/
module

public import proofs.«01_k».proof.Proof.Gen.ReferenceIdeal
public import proofs.«01_k».proof.Proof.Spec
public import proofs.«01_k».proof.Proof.Words
public import Idealize.ShloMosaic.Lib.Pointwise
public import Idealize.ShloMosaic.Lib.IdealHost
public import Idealize.ShloMosaic.Lib.ValueIdxCore
public import Idealize.ShloMosaic.Lib.StableHlo.Predicate
public import Idealize.ShloMosaic.PureOps.Ideal

@[expose] public section

set_option maxRecDepth 16384

noncomputable section

namespace Cert.RefOps

open Idealize.ShloMosaic Cert.ReferenceIdeal Cert.ReferenceIdeal.Gen Cert.Order

/-- The comparator of the argsorts puts the smaller first. -/
theorem comparator_apply (l r : Ideal .f32 × BitVec 32) :
    (comparator_f32_i32_d0 l r == 1#1) = decide ((l.1 : EReal) < r.1) := by
  have hz : FloatOps.ofBits (F := Ideal) .f32 0x00000000#32 = (0 : EReal) := Ideal.ofBits_zero_f32
  have h0 : ∀ v : EReal, Scalar.select (Ideal.cmp .une v v) (FloatOps.ofBits (F := Ideal) .f32 0x7FC00000#32)
      (Scalar.select (Ideal.cmp .oeq v (0 : EReal)) (0 : EReal) v) = v := fun v => by
    have h1 : Ideal.cmp .une v v = 0#1 := by simp [Ideal.cmp]
    rw [h1]
    by_cases hv : v = 0
    · subst hv
      simp [Scalar.select]
    · have h2 : Ideal.cmp .oeq v (0 : EReal) = 0#1 := by simp [Ideal.cmp, hv]
      rw [h2]
      simp [Scalar.select]
  have h : comparator_f32_i32_d0 l r = Ideal.cmp .olt (l.1 : EReal) r.1 := by
    unfold comparator_f32_i32_d0
    simp only [hz]
    show Ideal.cmp .olt (Scalar.select (Ideal.cmp .une (l.1 : EReal) l.1) _ (Scalar.select (Ideal.cmp .oeq (l.1 : EReal) 0) 0 l.1))
      (Scalar.select (Ideal.cmp .une (r.1 : EReal) r.1) _ (Scalar.select (Ideal.cmp .oeq (r.1 : EReal) 0) 0 r.1)) = _
    rw [h0, h0]
  rw [h]
  by_cases hl : (l.1 : EReal) < r.1 <;> simp [Ideal.cmp, hl]

/-- The argsort of a matrix's negated columns lists each column's rows, the greatest first. -/
theorem sort_col (x : FVec Ideal S4096x4096 .f32) (y : IVec S4096x4096 32) (w : Fin 4096 → EReal) (p j : Fin 4096)
    (hx : ∀ i, x (ix2 i j) = -w i) :
    (Host.sort2 S4096x4096 0 comparator_f32_i32_d0 x y).2 (ix2 p j) = y (ix2 (listed w p) j) := by
  have ha : ∀ k : Fin 4096, (ix2 p j : S4096x4096.Idx).along 0 k = ix2 k j := fun k => by
    funext b
    match b with
    | ⟨0, _⟩ => rfl
    | ⟨1, _⟩ => rfl
  have hc : (fun k k' : Fin 4096 => comparator_f32_i32_d0 (x ((ix2 p j : S4096x4096.Idx).along 0 k), y ((ix2 p j : S4096x4096.Idx).along 0 k))
      (x ((ix2 p j : S4096x4096.Idx).along 0 k'), y ((ix2 p j : S4096x4096.Idx).along 0 k')) == 1#1) = greaterFirst w := by
    funext k k'
    rw [comparator_apply, ha, ha]
    show decide ((x (ix2 k j) : EReal) < x (ix2 k' j)) = decide (w k' < w k)
    rw [hx, hx]
    exact decide_eq_decide.mpr EReal.neg_lt_neg_iff
  exact (congrArg (fun f => y ((ix2 p j : S4096x4096.Idx).along 0 (sortedFrom (n := 4096) f p))) hc).trans (congrArg y (ha _))

/-- The argsort of a negated vector lists its entries, the greatest first. -/
theorem sort_vec (x : FVec Ideal S4096 .f32) (y : IVec S4096 32) (w : Fin 4096 → EReal) (p : Fin 4096)
    (hx : ∀ i, x (ix1 i) = -w i) :
    (Host.sort2 S4096 0 comparator_f32_i32_d0 x y).2 (ix1 p) = y (ix1 (listed w p)) := by
  have ha : ∀ k : Fin 4096, (ix1 p : S4096.Idx).along 0 k = ix1 k := fun k => by
    funext b
    match b with
    | ⟨0, _⟩ => rfl
  have hc : (fun k k' : Fin 4096 => comparator_f32_i32_d0 (x ((ix1 p : S4096.Idx).along 0 k), y ((ix1 p : S4096.Idx).along 0 k))
      (x ((ix1 p : S4096.Idx).along 0 k'), y ((ix1 p : S4096.Idx).along 0 k')) == 1#1) = greaterFirst w := by
    funext k k'
    rw [comparator_apply, ha, ha]
    show decide ((x (ix1 k) : EReal) < x (ix1 k')) = decide (w k' < w k)
    rw [hx, hx]
    exact decide_eq_decide.mpr EReal.neg_lt_neg_iff
  exact (congrArg (fun f => y ((ix1 p : S4096.Idx).along 0 (sortedFrom (n := 4096) f p))) hc).trans (congrArg y (ha _))

/-- A row sorted by "greater" is the row's list. -/
theorem sort_row (x : FVec Ideal S4096x4096 .f32) (y : IVec S4096x4096 32) (w : Fin 4096 → EReal) (j p : Fin 4096) (hx : ∀ i, x (ix2 j i) = w i) :
    (Host.sort2 S4096x4096 1 (fun l r => FloatOps.cmpfTotal (F := Ideal) (φ := .f32) .gt l.1 r.1) x y).1 (ix2 j p) = w (listed w p) := by
  have ha : ∀ k : Fin 4096, (ix2 j p : S4096x4096.Idx).along 1 k = ix2 j k := fun k => by
    funext b
    match b with
    | ⟨0, _⟩ => rfl
    | ⟨1, _⟩ => rfl
  have hc : (fun k k' : Fin 4096 => FloatOps.cmpfTotal (F := Ideal) (φ := .f32) .gt (x ((ix2 j p : S4096x4096.Idx).along 1 k))
      (x ((ix2 j p : S4096x4096.Idx).along 1 k')) == 1#1) = greaterFirst w := by
    funext k k'
    rw [ha, ha]
    show (Ideal.cmp .ogt (x (ix2 j k) : EReal) (x (ix2 j k')) == 1#1) = decide (w k' < w k)
    rw [hx, hx]
    by_cases hl : w k' < w k <;> simp [Ideal.cmp, hl]
  exact (congrArg (fun f => x ((ix2 j p : S4096x4096.Idx).along 1 (sortedFrom (n := 4096) f p))) hc).trans
    ((congrArg x (ha _)).trans (hx _))

/-- The five greatest entries of a row are the row's entries listed first. -/
theorem topK_row (x : FVec Ideal S4096x4096 .f32) (w : Fin 4096 → EReal) (r : Fin 5) (j : Fin 4096) (hx : ∀ i, x (ix2 j i) = w i) :
    (Host.topK S4096x5 1 (FloatOps.cmpfTotal .gt) x sliceFits_S4096x4096_S4096x5).1 (ix2 j r) =
      w (listed w (r.castLE Spec.five_le)) := by
  refine Eq.trans ?_ (sort_row x (fun i => if hd : 1 < S4096x4096.rank then iotaInDim S4096x4096 32 ⟨1, hd⟩ i else 0#32) w j (r.castLE Spec.five_le) hx)
  refine congrArg (Host.sort2 S4096x4096 1 (fun l r => FloatOps.cmpfTotal (F := Ideal) (φ := .f32) .gt l.1 r.1) x _).1 ?_
  funext b
  match b with
  | ⟨0, _⟩ => exact Fin.ext (Nat.zero_add _)
  | ⟨1, _⟩ => exact Fin.ext (Nat.zero_add _)

/-- A position kept as a word is not negative, so wrapping it about the end leaves it. -/
theorem wrap_eq {n : Nat} (z : BitVec 32) (h : n < 2 ^ 31) :
    Scalar.select (IntOp.cmpi .slt (BitVec.ofNat 32 n) 0#32) z (BitVec.ofNat 32 n) = BitVec.ofNat 32 n := by
  have : IntOp.cmpi .slt (BitVec.ofNat 32 n) 0#32 = 0#1 := by
    show BitVec.ofBool ((BitVec.ofNat 32 n).slt 0#32) = 0#1
    rw [Words.slt_zero h]
    rfl
  rw [this]
  rfl

/-- The labels at a table of positions. -/
theorem gather_table (x : IVec S4096 32) (idx : IVec S5x4096x1 32) (r : Fin 5) (j p : Fin 4096)
    (h : idx (ix3 r j 0) = BitVec.ofNat 32 p.val) :
    Host.gather gather_S4096_S5x4096x1_S5x4096_n_0_n_n_0_2_1 x idx (ix2 r j) = x (ix1 p) := by
  have hi : (ValueIdx.takeIdx (ix2 r j : S5x4096.Idx) : S5x4096x1.Idx) = ix3 r j 0 := by
    funext b
    match b with
    | ⟨0, _⟩ => rfl
    | ⟨1, _⟩ => rfl
    | ⟨2, _⟩ => rfl
  refine (ValueIdx.gather_take_apply (by omega) gather_S4096_S5x4096x1_S5x4096_n_0_n_n_0_2_1_wf x idx (ix2 r j)).trans ?_
  apply congrArg x
  funext b
  match b with
  | ⟨0, _⟩ =>
    apply Fin.ext
    show min (idx (ValueIdx.takeIdx (ix2 r j : S5x4096.Idx))).toInt.toNat (4096 - 1) = p.val
    rw [hi, h, Words.toInt_ofNat (by have := p.isLt; omega), Int.toNat_natCast]
    have := p.isLt; omega

/-- A table's entries at one row per column. -/
theorem gather_rows (x : IVec S5x4096 32) (idx : IVec S1x4096x1 32) (r : Fin 5) (j : Fin 4096)
    (h : idx (ix3 0 j 0) = BitVec.ofNat 32 r.val) :
    Host.gather gather_S5x4096_S1x4096x1_S1x4096_n_0_1_1_0_2_11 x idx (ix2 0 j) = x (ix2 r j) := by
  have hi : (ValueIdx.takeIdx (ix2 0 j : S1x4096.Idx) : S1x4096x1.Idx) = ix3 0 j 0 := by
    funext b
    match b with
    | ⟨0, _⟩ => rfl
    | ⟨1, _⟩ => rfl
    | ⟨2, _⟩ => rfl
  refine (ValueIdx.gather_take_rows_apply (by omega) gather_S5x4096_S1x4096x1_S1x4096_n_0_1_1_0_2_11_wf x idx (ix2 0 j)).trans ?_
  apply congrArg x
  funext b
  match b with
  | ⟨0, _⟩ =>
    apply Fin.ext
    show min (idx (ValueIdx.takeIdx (ix2 0 j : S1x4096.Idx))).toInt.toNat (5 - 1) = r.val
    rw [hi, h, Words.toInt_ofNat (by have := r.isLt; omega), Int.toNat_natCast]
    have := r.isLt; omega
  | ⟨1, _⟩ => rfl

/-- A vector's entries at a list of positions. -/
theorem gather_vec (x : IVec S4096 32) (idx : IVec S2048x1 32) (q : Fin 2048) (p : Fin 4096)
    (h : idx (ix2 q 0) = BitVec.ofNat 32 p.val) :
    Host.gather gather_S4096_S2048x1_S2048_n_0_n_n_0_1_1 x idx (ix1 q) = x (ix1 p) := by
  have hi : (StableHlo.Predicate.ixP q : S2048x1.Idx) = ix2 q 0 := by
    funext b
    match b with
    | ⟨0, _⟩ => rfl
    | ⟨1, _⟩ => rfl
  have hq : (ix1 q : S2048.Idx) = Shape.Idx.ofFin q := by
    funext b
    match b with
    | ⟨0, _⟩ => rfl
  rw [hq]
  refine (StableHlo.Predicate.gather_take gather_S4096_S2048x1_S2048_n_0_n_n_0_1_1 rfl rfl rfl rfl x idx q (by omega)).trans ?_
  apply congrArg x
  funext b
  match b with
  | ⟨0, _⟩ =>
    apply Fin.ext
    show min (idx (StableHlo.Predicate.ixP q)).toInt.toNat (4096 - 1) = p.val
    rw [hi, h, Words.toInt_ofNat (by have := p.isLt; omega), Int.toNat_natCast]
    have := p.isLt; omega

/-- A matrix's columns at a list of positions. -/
theorem gather_cols (x : FVec Ideal S4096x4096 .f32) (idx : IVec S2048x1 32) (i : Fin 4096) (q : Fin 2048) (p : Fin 4096)
    (h : idx (ix2 q 0) = BitVec.ofNat 32 p.val) :
    Host.gather gather_S4096x4096_S2048x1_S4096x2048_0_1_n_n_1_1_40961 x idx (ix2 i q) = x (ix2 i p) := by
  have hi : ∀ c, (gather_S4096x4096_S2048x1_S4096x2048_0_1_n_n_1_1_40961.siIdx (ix2 i q) c : S2048x1.Idx) = ix2 q 0 := fun c => by
    funext b
    match b with
    | ⟨0, _⟩ => rfl
    | ⟨1, _⟩ => exact Subsingleton.elim (α := Fin 1) _ _
  apply congrArg x
  funext b
  match b with
  | ⟨0, _⟩ =>
    apply Fin.ext
    show GatherDims.start gather_S4096x4096_S2048x1_S4096x2048_0_1_n_n_1_1_40961 (ix2 i q) idx 0 + GatherDims.batchCoord gather_S4096x4096_S2048x1_S4096x2048_0_1_n_n_1_1_40961 (ix2 i q) 0 + GatherDims.offCoord gather_S4096x4096_S2048x1_S4096x2048_0_1_n_n_1_1_40961 (ix2 i q) 0 = i.val
    rw [show GatherDims.start gather_S4096x4096_S2048x1_S4096x2048_0_1_n_n_1_1_40961 (ix2 i q) idx 0 = 0 from rfl,
      show GatherDims.batchCoord gather_S4096x4096_S2048x1_S4096x2048_0_1_n_n_1_1_40961 (ix2 i q) 0 = 0 from rfl,
      show GatherDims.offCoord gather_S4096x4096_S2048x1_S4096x2048_0_1_n_n_1_1_40961 (ix2 i q) 0 = i.val from rfl]
    omega
  | ⟨1, _⟩ =>
    apply Fin.ext
    show GatherDims.start gather_S4096x4096_S2048x1_S4096x2048_0_1_n_n_1_1_40961 (ix2 i q) idx 1 + GatherDims.batchCoord gather_S4096x4096_S2048x1_S4096x2048_0_1_n_n_1_1_40961 (ix2 i q) 1 + GatherDims.offCoord gather_S4096x4096_S2048x1_S4096x2048_0_1_n_n_1_1_40961 (ix2 i q) 1 = p.val
    rw [show GatherDims.start gather_S4096x4096_S2048x1_S4096x2048_0_1_n_n_1_1_40961 (ix2 i q) idx 1 =
        min (idx (gather_S4096x4096_S2048x1_S4096x2048_0_1_n_n_1_1_40961.siIdx (ix2 i q) ⟨0, Nat.one_pos⟩)).toInt.toNat (4096 - 1) from rfl,
      show GatherDims.batchCoord gather_S4096x4096_S2048x1_S4096x2048_0_1_n_n_1_1_40961 (ix2 i q) 1 = 0 from rfl,
      show GatherDims.offCoord gather_S4096x4096_S2048x1_S4096x2048_0_1_n_n_1_1_40961 (ix2 i q) 1 = 0 from rfl,
      hi, h, Words.toInt_ofNat (by have := p.isLt; omega), Int.toNat_natCast]
    have := p.isLt; omega

end Cert.RefOps

end
-- ==== Proof.RefArgmax.lean ====
/-
  The reference's arg-max of five scores kept as words: the position it returns has a greatest score.
-/
module

public import proofs.«01_k».proof.Proof.Gen.ReferenceIdeal
public import proofs.«01_k».proof.Proof.Words
public import Idealize.ShloMosaic.Lib.Pointwise

@[expose] public section

set_option maxRecDepth 16384

noncomputable section

namespace Cert.RefArgmax

open Idealize.ShloMosaic Cert.ReferenceIdeal Cert.ReferenceIdeal.Gen

/-- The pair at position `i` of scores `s`. -/
def pair (s : Fin 5 → Nat) (i : Fin 5) : BitVec 32 × BitVec 32 := (BitVec.ofNat 32 (s i), BitVec.ofNat 32 i.val)

/-- The first pair replaces the least word. -/
theorem step_init (s : Fin 5 → Nat) (hs : ∀ i, s i < 1024) (i : Fin 5) :
    reducer_argmax_i32_i32 (2147483648#32, 0#32) (pair s i) = pair s i := by
  have hgt : IntOp.cmpi .sgt 2147483648#32 (BitVec.ofNat 32 (s i)) = 0#1 := by
    show BitVec.ofBool ((BitVec.ofNat 32 (s i)).slt 2147483648#32) = 0#1
    rw [BitVec.slt_eq_decide, Words.toInt_ofNat (by have := hs i; omega)]
    have : ¬ ((s i : Int) < (2147483648#32).toInt) := by
      rw [show (2147483648#32).toInt = -2147483648 by decide]
      omega
    rw [decide_eq_false this]
    rfl
  have heq : IntOp.cmpi .eq 2147483648#32 (BitVec.ofNat 32 (s i)) = 0#1 := by
    show BitVec.ofBool (2147483648#32 == BitVec.ofNat 32 (s i)) = 0#1
    have : ¬ 2147483648#32 = BitVec.ofNat 32 (s i) := fun h => by
      have h1 : (2147483648#32).toNat = s i := (congrArg BitVec.toNat h).trans (Words.toNat_ofNat (by have := hs i; omega))
      have h2 : (2147483648#32).toNat = 2147483648 := by decide
      have h3 := hs i
      rw [h2] at h1
      omega
    rw [beq_eq_false_iff_ne.mpr this]
    rfl
  have hne : IntOp.cmpi .ne 2147483648#32 2147483648#32 = 0#1 := by decide
  unfold reducer_argmax_i32_i32 pair
  simp only [hgt, heq, hne]
  generalize IntOp.cmpi .slt _ _ = b
  have : ∀ b : BitVec 1, IntOp.ori (IntOp.ori 0#1 0#1) (IntOp.andi 0#1 b) = 0#1 := by decide
  rw [this]
  rfl

/-- A step keeps one of the two pairs, of a score no less than either. -/
theorem step_pair (s : Fin 5 → Nat) (hs : ∀ i, s i < 1024) (m i : Fin 5) :
    ∃ k, reducer_argmax_i32_i32 (pair s m) (pair s i) = pair s k ∧ s m ≤ s k ∧ s i ≤ s k := by
  have hm := hs m
  have hi := hs i
  have hgt : IntOp.cmpi .sgt (BitVec.ofNat 32 (s m)) (BitVec.ofNat 32 (s i)) = BitVec.ofBool (decide (s i < s m)) := by
    show BitVec.ofBool ((BitVec.ofNat 32 (s i)).slt (BitVec.ofNat 32 (s m))) = _
    rw [BitVec.slt_eq_decide, Words.toInt_ofNat (by omega), Words.toInt_ofNat (by omega)]
    exact congrArg _ (decide_eq_decide.mpr Int.ofNat_lt)
  have heq : IntOp.cmpi .eq (BitVec.ofNat 32 (s m)) (BitVec.ofNat 32 (s i)) = BitVec.ofBool (decide (s m = s i)) := by
    show BitVec.ofBool (BitVec.ofNat 32 (s m) == BitVec.ofNat 32 (s i)) = _
    apply congrArg
    by_cases h : s m = s i
    · rw [h]; simp
    · rw [decide_eq_false h]
      exact beq_eq_false_iff_ne.mpr fun h' => h (Words.ofNat_inj (by omega) (by omega) h')
  have hne : IntOp.cmpi .ne (BitVec.ofNat 32 (s m)) (BitVec.ofNat 32 (s m)) = 0#1 := by
    show BitVec.ofBool (!(BitVec.ofNat 32 (s m) == BitVec.ofNat 32 (s m))) = 0#1
    simp
  unfold reducer_argmax_i32_i32 pair
  simp only [hgt, heq, hne]
  rcases lt_trichotomy (s m) (s i) with h | h | h
  · refine ⟨i, ?_, h.le, le_refl _⟩
    rw [decide_eq_false (by omega), decide_eq_false (by omega)]
    generalize IntOp.cmpi .slt _ _ = b
    revert b
    have : ∀ b : BitVec 1, IntOp.ori (IntOp.ori (BitVec.ofBool false) 0#1) (IntOp.andi (BitVec.ofBool false) b) = 0#1 := by decide
    intro b
    rw [this]
    rfl
  · rw [decide_eq_false (by omega), decide_eq_true h]
    generalize IntOp.cmpi .slt _ _ = b
    rw [show IntOp.ori (IntOp.ori (BitVec.ofBool false) 0#1) (IntOp.andi (BitVec.ofBool true) b) = b by revert b; decide]
    rcases (by revert b; decide : b = 0#1 ∨ b = 1#1) with rfl | rfl
    · exact ⟨i, rfl, h.le, le_refl _⟩
    · exact ⟨m, by rw [h]; rfl, le_refl _, h.ge⟩
  · refine ⟨m, ?_, le_refl _, h.le⟩
    rw [decide_eq_true h, decide_eq_false (by omega)]
    generalize IntOp.cmpi .slt _ _ = b
    have : ∀ b : BitVec 1, IntOp.ori (IntOp.ori (BitVec.ofBool true) 0#1) (IntOp.andi (BitVec.ofBool false) b) = 1#1 := by decide
    rw [this]
    rfl

/-- Folding over a list of positions from a pair keeps a pair of a score no less than any met. -/
theorem fold_pair (s : Fin 5 → Nat) (hs : ∀ i, s i < 1024) : ∀ (l : List (Fin 5)) (m : Fin 5),
    ∃ k, (l.map (pair s)).foldl reducer_argmax_i32_i32 (pair s m) = pair s k ∧ s m ≤ s k ∧ ∀ i ∈ l, s i ≤ s k
  | [], m => ⟨m, rfl, le_refl _, fun _ h => absurd h List.not_mem_nil⟩
  | i :: l, m => by
    obtain ⟨k, hk, h1, h2⟩ := step_pair s hs m i
    obtain ⟨k', hk', h1', h2'⟩ := fold_pair s hs l k
    refine ⟨k', ?_, h1.trans h1', fun a ha => ?_⟩
    · rw [List.map_cons, List.foldl_cons, hk, hk']
    · rcases List.mem_cons.mp ha with rfl | ha
      · exact h2.trans h1'
      · exact h2' a ha

/-- Folding over a list that holds every position, from the least word, keeps a pair of a greatest score. -/
theorem fold_all (s : Fin 5 → Nat) (hs : ∀ i, s i < 1024) (l : List (Fin 5)) (hl : ∀ i, i ∈ l) :
    ∃ k, (l.map (pair s)).foldl reducer_argmax_i32_i32 (2147483648#32, 0#32) = pair s k ∧ ∀ i, s i ≤ s k := by
  cases l with
  | nil => exact absurd (hl 0) List.not_mem_nil
  | cons i l =>
    obtain ⟨k, hk, h1, h2⟩ := fold_pair s hs l i
    refine ⟨k, ?_, fun a => ?_⟩
    · rw [List.map_cons, List.foldl_cons, step_init s hs, hk]
    · rcases List.mem_cons.mp (hl a) with rfl | ha
      · exact h1
      · exact h2 a ha

/-- Where an entry goes when the rows are reduced away. -/
theorem drop_ix (i : Fin 5) (j : Fin 4096) : reducesTo_S5x4096_S4096_d0.drop (ix2 i j) = ix1 j := by
  funext b
  match b with
  | ⟨0, _⟩ => rfl

/-- The position of an entry within its column. -/
def rowOf (i : S5x4096.Idx) : Fin 5 := i 0

/-- The entries that are reduced to one column. -/
theorem of_drop (i : S5x4096.Idx) (j : Fin 4096) (h : reducesTo_S5x4096_S4096_d0.drop i = ix1 j) : i = ix2 (rowOf i) j := by
  funext b
  match b with
  | ⟨0, _⟩ => rfl
  | ⟨1, _⟩ => exact congrFun h 0

/-- The arg-max of a column of scores is a position of a greatest score. -/
theorem argmax_apply (x y : IVec S5x4096 32) (u v : IVec S_ 32) (s : Fin 5 → Nat) (hs : ∀ i, s i < 1024) (j : Fin 4096)
    (hx : ∀ i, x (ix2 i j) = BitVec.ofNat 32 (s i)) (hy : ∀ i : Fin 5, y (ix2 i j) = BitVec.ofNat 32 i.val)
    (hu : ∀ i, u i = 2147483648#32) (hv : ∀ i, v i = 0#32) :
    ∃ k : Fin 5, (Host.reduce2 reducer_argmax_i32_i32 x y u v reducesTo_S5x4096_S4096_d0 h_S_ (ix1 j)).2 = BitVec.ofNat 32 k.val ∧
      ∀ i, s i ≤ s k := by
  have hf : Host.argReduceFiber x y reducesTo_S5x4096_S4096_d0 (ix1 j) =
      (((List.finRange S5x4096.numel).filter fun n => reducesTo_S5x4096_S4096_d0.drop (S5x4096.rowMajor.symm n) = ix1 j).map
        fun n => rowOf (S5x4096.rowMajor.symm n)).map (pair s) := by
    unfold Host.argReduceFiber
    rw [List.map_map]
    refine List.map_congr_left fun n hn => ?_
    have hd := of_decide_eq_true (List.mem_filter.mp hn).2
    have he := of_drop _ j hd
    refine Prod.ext ((congrArg x he).trans (hx _)) ((congrArg y he).trans (hy _))
  obtain ⟨k, hk, h⟩ := fold_all s hs (((List.finRange S5x4096.numel).filter fun n => reducesTo_S5x4096_S4096_d0.drop (S5x4096.rowMajor.symm n) = ix1 j).map
        fun n => rowOf (S5x4096.rowMajor.symm n)) fun i => by
    refine List.mem_map.mpr ⟨S5x4096.rowMajor (ix2 i j), List.mem_filter.mpr ⟨List.mem_finRange _, ?_⟩, ?_⟩
    · rw [Equiv.symm_apply_apply]
      exact decide_eq_true (drop_ix i j)
    · rw [Equiv.symm_apply_apply]
      rfl
  refine ⟨k, ?_, h⟩
  rw [Host.reduce2_eq_foldl_fiber, hf, hu, hv, hk]
  rfl

end Cert.RefArgmax

end
-- ==== Proof.RefSim.lean ====
/-
  The reference's similarities and the labels it assigns to the columns, entry by entry.
-/
module

public import proofs.«01_k».proof.Proof.RefRun
public import proofs.«01_k».proof.Proof.RefOps
public import proofs.«01_k».proof.Proof.RefArgmax
public import Idealize.ShloMosaic.Lib.Pointwise
public import Idealize.ShloMosaic.Lib.IdealHost
public import Idealize.ShloMosaic.PureOps.Ideal

@[expose] public section

set_option maxRecDepth 16384

noncomputable section

namespace Cert.RefValue

open Idealize.ShloMosaic Idealize.ShloMosaic.StableHlo Cert.ReferenceIdeal Cert.ReferenceIdeal.Gen Cert.ReferenceIdeal.Value Cert.Order

variable (V : Valuation τ sig (Elt Ideal))

/-- The source features, the target features and the source labels the program reads. -/
def src (i : Fin 4096) (d : Fin 64) : EReal := V (Proc.devRef .tc main_arg0) (ix2 i d)
/-- The target features. -/
def tgt (j : Fin 4096) (d : Fin 64) : EReal := V (Proc.devRef .tc main_arg2) (ix2 j d)
/-- The source labels. -/
def lab (i : Fin 4096) : BitVec 32 := V (Proc.devRef .tc main_arg1) (ix1 i)

/-- The similarities of a column, and the ratios and labels they give. -/
def col (j i : Fin 4096) : EReal := Spec.sim (src V) (tgt V) i j

/-- The matrix of similarities. -/
theorem v20_apply (i j : Fin 4096) : res_main_v20 V (ix2 i j) = col V j i := by
  unfold res_main_v20
  pointwise []
  unfold col Spec.sim Spec.simOf
  rw [Ideal.ofBits_one_f32]
  rfl

/-- The similarities, negated, as the sort takes them. -/
theorem v21_apply (i j : Fin 4096) : res_main_v21 V (ix2 i j) = -col V j i := by
  unfold res_main_v21
  pointwise []
  exact congrArg _ (v20_apply V i j)

/-- The five rows of greatest similarity to a column. -/
theorem v23_apply (r : Fin 5) (j : Fin 4096) :
    res_main_v23 V (ix2 r j) = BitVec.ofNat 32 (listed (col V j) (r.castLE Spec.five_le)).val := by
  unfold res_main_v23
  pointwise []
  refine (RefOps.sort_col (res_main_v21 V) (res_main_call0_v0 V) (col V j) (r.castLE Spec.five_le) j fun i => v21_apply V i j).trans ?_
  unfold res_main_call0_v0
  pointwise []
  try rfl

section Labels

variable {ℓ : Fin 4096 → Nat} (hℓ : ∀ i, ℓ i < 64) (hl : ∀ i, lab V i = BitVec.ofNat 32 (ℓ i))
include hℓ hl

/-- The labels of those rows. -/
theorem v30_apply (r : Fin 5) (j : Fin 4096) : res_main_v30 V (ix2 r j) = BitVec.ofNat 32 (Spec.top (col V j) ℓ r) := by
  unfold res_main_v30
  refine (RefOps.gather_table _ _ r j (listed (col V j) (r.castLE Spec.five_le)) ?_).trans (hl _)
  pointwise []
  rw [v23_apply V]
  exact RefOps.wrap_eq _ (by have := (listed (col V j) (r.castLE Spec.five_le)).isLt; omega)

omit hℓ hl in
/-- A sum of words that keep small numbers keeps their sum. -/
theorem fold_addi {n : Nat} (f : Fin n → Nat) (s : Finset (Fin n)) :
    s.fold IntOp.addi 0#32 (fun k => BitVec.ofNat 32 (f k)) = BitVec.ofNat 32 (∑ k ∈ s, f k) := by
  induction s using Finset.induction_on with
  | empty => rfl
  | insert a s ha ih =>
    rw [Finset.fold_insert ha, Finset.sum_insert ha, ih]
    exact (BitVec.ofNat_add _ _).symm

omit hℓ hl in
/-- A conjunction of ones is one. -/
theorem fold_andi {α : Type} (s : Finset α) (f : α → BitVec 1) (h : ∀ x ∈ s, f x = 1#1) : s.fold IntOp.andi 1#1 f = 1#1 := by
  induction s using Finset.cons_induction with
  | empty => rfl
  | cons a s ha ih =>
    rw [Finset.fold_cons, h a (Finset.mem_cons_self a s), ih fun x hx => h x (Finset.mem_cons_of_mem hx)]
    rfl

omit hℓ hl in
/-- The entries that are reduced to one place. -/
theorem of_drop (x : S1x4096x1.Idx) (j : Fin 4096) (h : reducesTo_S1x4096x1_S1x4096_d2.drop x = ix2 0 j) : x = ix3 0 j 0 := by
  funext b
  match b with
  | ⟨0, _⟩ => exact Subsingleton.elim (α := Fin 1) _ _
  | ⟨1, _⟩ => exact congrFun h 1
  | ⟨2, _⟩ => exact Subsingleton.elim (α := Fin 1) _ _

/-- The score of each of them: how often its label occurs, and then the smaller label first. -/
theorem v42_apply (r : Fin 5) (j : Fin 4096) : res_main_v42 V (ix2 r j) = BitVec.ofNat 32 (Mode.score (Spec.top (col V j) ℓ) r) := by
  have hlt : ∀ i, Spec.top (col V j) ℓ i < 64 := fun i => hℓ _
  unfold res_main_v42
  pointwise []
  have hf : (fun x : Fin 5 => BitVec.setWidth 32 (IntOp.cmpi CmpIPredicate.eq (res_main_v30 V (ix2 r j)) (res_main_v30 V (ix2 x j)))) =
      fun x => BitVec.ofNat 32 (if Spec.top (col V j) ℓ r = Spec.top (col V j) ℓ x then 1 else 0) := by
    funext x
    rw [v30_apply V hℓ hl, v30_apply V hℓ hl]
    exact Mode.same_eq (hlt r) (hlt x)
  rw [hf, fold_addi, v30_apply V hℓ hl]
  exact Mode.scoreOf_eq hlt r

/-- The position of the label assigned to a column. -/
theorem v44_apply (j : Fin 4096) : ∃ k : Fin 5, res_main_v44 V (ix2 0 j) = BitVec.ofNat 32 k.val ∧
    Spec.top (col V j) ℓ k = Spec.assigned (col V j) ℓ := by
  have hlt : ∀ i, Spec.top (col V j) ℓ i < 64 := fun i => hℓ _
  obtain ⟨k, hk, h⟩ := RefArgmax.argmax_apply (res_main_v42 V) (res_main_call1_v0 V) (res_main_call1_c V) (res_main_call1_c_0 V)
    (Mode.score (Spec.top (col V j) ℓ)) (fun i => Mode.score_lt i) j (fun i => v42_apply V hℓ hl i j)
    (fun i => by unfold res_main_call1_v0; pointwise [])
    (fun i => by unfold res_main_call1_c; rfl) (fun i => by unfold res_main_call1_c_0; rfl)
  refine ⟨k, ?_, Mode.IsMode.unique hlt ⟨k, rfl, h⟩ (Mode.mode_spec _)⟩
  unfold res_main_v44
  pointwise []
  exact hk

/-- The label assigned to a column. -/
theorem v46_apply (j : Fin 4096) : res_main_v46 V (ix1 j) = BitVec.ofNat 32 (Spec.assigned (col V j) ℓ) := by
  obtain ⟨k, hk, h⟩ := v44_apply V hℓ hl j
  have h5 : res_main_call2_v5 V (ix3 0 j 0) = BitVec.ofNat 32 k.val := by
    unfold res_main_call2_v5
    pointwise []
    rw [hk]
    exact RefOps.wrap_eq _ (by have := k.isLt; omega)
  unfold res_main_v46
  pointwise []
  rw [fold_andi _ _ fun x hx => ?_]
  · exact (RefOps.gather_rows (res_main_v30 V) (res_main_call2_v5 V) k j h5).trans ((v30_apply V hℓ hl k j).trans (congrArg _ h))
  · rw [of_drop x j (Finset.mem_filter.mp hx).2, h5]
    have : ∀ k : Fin 5, IntOp.andi (IntOp.cmpi CmpIPredicate.sge (BitVec.ofNat 32 k.val) 0#32)
        (IntOp.cmpi CmpIPredicate.sle (BitVec.ofNat 32 k.val) 4#32) = 1#1 := by decide
    exact this k

end Labels

end Cert.RefValue

end
-- ==== Proof.RefChosen.lean ====
/-
  The reference's ratio of each column, and the columns it keeps.
-/
module

public import proofs.«01_k».proof.Proof.RefSim
public import proofs.«01_k».proof.Proof.Pass2

@[expose] public section

set_option maxRecDepth 16384

noncomputable section

namespace Cert.RefValue

open Idealize.ShloMosaic Idealize.ShloMosaic.StableHlo Cert.ReferenceIdeal Cert.ReferenceIdeal.Gen Cert.ReferenceIdeal.Value Cert.Order

variable (V : Valuation τ sig (Elt Ideal))

/-- The label and the ratio of a column. -/
def asg (ℓ : Fin 4096 → Nat) (j : Fin 4096) : Nat := Spec.assigned (col V j) ℓ
/-- The ratio of a column. -/
def rat (ℓ : Fin 4096 → Nat) (j : Fin 4096) : EReal := Spec.ratio (col V j) ℓ (asg V ℓ j)

variable {ℓ : Fin 4096 → Nat} (hℓ : ∀ i, ℓ i < 64) (hl : ∀ i, lab V i = BitVec.ofNat 32 (ℓ i))
include hℓ hl

/-- An assigned label is below 64. -/
theorem asg_lt (j : Fin 4096) : asg V ℓ j < 64 := Mode.mode_lt fun _ => hℓ _

omit hℓ hl in
/-- Two words that keep labels agree when the labels do. -/
theorem cmp_labels {m n : Nat} (hm : m < 64) (hn : n < 64) :
    IntOp.cmpi .eq (BitVec.ofNat 32 m) (BitVec.ofNat 32 n) = BitVec.ofBool (decide (m = n)) := by
  rw [Pass2.ofBool_eq]
  exact congrArg _ (decide_eq_decide.mpr ⟨fun h => Words.ofNat_inj (by omega) (by omega) h, fun h => by rw [h]⟩)

/-- Whether a row's label is the column's. -/
theorem v51_apply (i j : Fin 4096) : res_main_v51 V (ix2 i j) = BitVec.ofBool (decide (ℓ i = asg V ℓ j)) := by
  unfold res_main_v51
  pointwise []
  rw [v46_apply V hℓ hl]
  refine (congrArg (fun z => IntOp.cmpi CmpIPredicate.eq z _) (hl i)).trans ?_
  exact cmp_labels (hℓ i) (asg_lt V hℓ hl j)

/-- The similarities of a column to the rows of its label, and to the rows of other labels. -/
theorem v54_apply (i j : Fin 4096) : res_main_v54 V (ix2 j i) = if ℓ i = asg V ℓ j then col V j i else ⊥ := by
  unfold res_main_v54 res_main_v52
  pointwise []
  rw [v51_apply V hℓ hl, Pass1.ofBits_negInf, v20_apply]
  exact Pass2.select_ofBool _ _ _
/-- The similarities of a column to the rows of other labels. -/
theorem v58_apply (i j : Fin 4096) : res_main_v58 V (ix2 j i) = if ℓ i = asg V ℓ j then ⊥ else col V j i := by
  unfold res_main_v58 res_main_v52
  pointwise []
  rw [v51_apply V hℓ hl, Pass1.ofBits_negInf, v20_apply,
    show ~~~(BitVec.ofBool (decide (ℓ i = asg V ℓ j))) = BitVec.ofBool (decide (¬ ℓ i = asg V ℓ j)) by by_cases h : ℓ i = asg V ℓ j <;> simp [h]]
  refine (Pass2.select_ofBool _ _ _).trans ?_
  exact ite_not _ _ _

/-- The ratios, negated. -/
theorem v61_apply (j : Fin 4096) : res_main_v61 V (ix1 j) = -rat V ℓ j := by
  unfold res_main_v61
  pointwise []
  have h1 : ∀ r, (Host.topK S4096x5 1 (FloatOps.cmpfTotal (F := Ideal) (φ := .f32) .gt) (res_main_v54 V) sliceFits_S4096x4096_S4096x5).1 (ix2 j r) = _ :=
    fun r => RefOps.topK_row (res_main_v54 V) (fun i => if ℓ i = asg V ℓ j then col V j i else ⊥) r j fun i => v54_apply V hℓ hl i j
  have h2 : ∀ r, (Host.topK S4096x5 1 (FloatOps.cmpfTotal (F := Ideal) (φ := .f32) .gt) (res_main_v58 V) sliceFits_S4096x4096_S4096x5).1 (ix2 j r) = _ :=
    fun r => RefOps.topK_row (res_main_v58 V) (fun i => if ℓ i = asg V ℓ j then ⊥ else col V j i) r j fun i => v58_apply V hℓ hl i j
  unfold rat Spec.ratio Spec.topSum
  exact congrArg (fun z : EReal => -z) (congrArg₂ Ideal.div (Finset.sum_congr rfl fun r _ => h1 r) (Finset.sum_congr rfl fun r _ => h2 r))

/-- The columns of greatest ratio. -/
theorem v63_apply (q : Fin 2048) (h : 2048 ≤ 4096) : res_main_v63 V (ix1 q) = BitVec.ofNat 32 (listed (rat V ℓ) (q.castLE h)).val := by
  unfold res_main_v63
  pointwise []
  refine (RefOps.sort_vec (res_main_v61 V) (res_main_call5_v0 V) (rat V ℓ) (q.castLE h) fun j => v61_apply V hℓ hl j).trans ?_
  unfold res_main_call5_v0
  pointwise []
  try rfl

/-- The similarities and labels of the columns kept. -/
theorem v70_apply (i : Fin 4096) (q : Fin 2048) (h : 2048 ≤ 4096) :
    res_main_v70 V (ix2 i q) = col V (listed (rat V ℓ) (q.castLE h)) i := by
  unfold res_main_v70
  refine (RefOps.gather_cols _ _ i q (listed (rat V ℓ) (q.castLE h)) ?_).trans (v20_apply V _ _)
  pointwise []
  rw [v63_apply V hℓ hl q h]
  exact RefOps.wrap_eq _ (by have := (listed (rat V ℓ) (q.castLE h)).isLt; omega)
/-- The marks of the kept columns: one where the label is the row's. -/
theorem v83_apply (i : Fin 4096) (q : Fin 2048) (h : 2048 ≤ 4096) :
    res_main_v83 V (ix2 i q) = Spec.hit (ℓ i) (asg V ℓ (listed (rat V ℓ) (q.castLE h))) := by
  unfold res_main_v83
  pointwise []
  rw [RefOps.gather_vec _ _ q (listed (rat V ℓ) (q.castLE h)) ?_, v46_apply V hℓ hl]
  · refine (congrArg (fun z => FloatOps.uitofp (F := Ideal) .f32 (IntOp.cmpi CmpIPredicate.eq z _)) (hl i)).trans ?_
    refine (congrArg (FloatOps.uitofp (F := Ideal) .f32) (cmp_labels (hℓ i) (asg_lt V hℓ hl (listed (rat V ℓ) (q.castLE h))))).trans ?_
    unfold Spec.hit
    show (((BitVec.ofBool _).toNat : ℝ) : EReal) = _
    by_cases h' : ℓ i = asg V ℓ (listed (rat V ℓ) (q.castLE h)) <;> simp [h']
  · pointwise []
    rw [v63_apply V hℓ hl q h]
    exact RefOps.wrap_eq _ (by have := (listed (rat V ℓ) (q.castLE h)).isLt; omega)

end Cert.RefValue

end
-- ==== Proof.RefRows.lean ====
/-
  The reference's last steps over any similarities and marks of the kept columns: a row's softmax weights, the rows
  that take part, and the loss.
-/
module

public import proofs.«01_k».proof.Proof.Gen.ReferenceIdeal
public import Idealize.ShloMosaic.Lib.Pointwise
public import Idealize.ShloMosaic.Lib.IdealHost
public import Idealize.ShloMosaic.PureOps.Ideal

@[expose] public section

set_option maxRecDepth 16384

noncomputable section

namespace Cert.RefRows

open Idealize.ShloMosaic Cert.ReferenceIdeal Cert.ReferenceIdeal.Gen

variable (x e h : FVec Ideal S4096x2048 .f32) (v : IVec S4096 1) (M : FVec Ideal S4096 .f32)

/-- A row takes part when its marks' sum and its other marks' sum are positive. -/
theorem valid_apply (i : Fin 4096) :
    andi (cmpf .ogt (Host.reduceAdd h (constant S_ .f32 0x00000000#32) reducesTo_S4096x2048_S4096_d1 h_S_) (broadcastInDim S4096 ![] bcast_S_S4096 (constant S_ .f32 0x00000000#32)))
      (cmpf .ogt (Host.reduceAdd (subf (broadcastInDim S4096x2048 ![] bcast_S_S4096x2048 (constant S_ .f32 0x3F800000#32)) h) (constant S_ .f32 0x00000000#32) reducesTo_S4096x2048_S4096_d1 h_S_)
        (broadcastInDim S4096 ![] bcast_S_S4096 (constant S_ .f32 0x00000000#32))) (ix1 i) =
    IntOp.andi (BitVec.ofBool (decide ((0 : EReal) < ∑ q, h (ix2 i q)))) (BitVec.ofBool (decide ((0 : EReal) < ∑ q, (1 - h (ix2 i q))))) := by
  pointwise []

/-- The weights, from the greatest similarity of each row. -/
theorem weight_apply (i : Fin 4096) (q : Fin 2048) :
    Host.exp (subf x (broadcastInDim S4096x2048 ![0, 1] bcast_S4096x1_S4096x2048_0_1 (broadcastInDim S4096x1 ![0] bcast_S4096_S4096x1_0 M))) (ix2 i q) =
      Ideal.exp (x (ix2 i q) - M (ix1 i)) := by
  pointwise []

/-- A row's share: the sum of its marked weights over the weights' sum. -/
theorem share_apply (i : Fin 4096) :
    Host.reduceAdd (mulf (Host.divf e (broadcastInDim S4096x2048 ![0, 1] bcast_S4096x1_S4096x2048_0_1 (broadcastInDim S4096x1 ![0] bcast_S4096_S4096x1_0
      (Host.reduceAdd e (constant S_ .f32 0x00000000#32) reducesTo_S4096x2048_S4096_d1 h_S_)))) h) (constant S_ .f32 0x00000000#32) reducesTo_S4096x2048_S4096_d1 h_S_ (ix1 i) =
    ∑ q, Ideal.div (e (ix2 i q)) (∑ p, e (ix2 i p)) * h (ix2 i q) := by
  pointwise []

/-- The loss, from the rows that take part and their shares. -/
theorem loss_apply :
    Host.divf (Host.negf (Host.reduceAdd (select v (Host.log (select v M (broadcastInDim S4096 ![] bcast_S_S4096 (constant (F := Ideal) S_ .f32 0x3F800000#32))))
        (broadcastInDim S4096 ![] bcast_S_S4096 (constant S_ .f32 0x00000000#32))) (constant S_ .f32 0x00000000#32) reducesTo_S4096_S_d0 h_S_))
      (maximumf (Host.reduceAdd (uitofp .f32 v) (constant S_ .f32 0x00000000#32) reducesTo_S4096_S_d0 h_S_) (constant S_ .f32 0x3F800000#32)) =
    fun _ => Ideal.div (-(∑ i, Scalar.select (v (ix1 i)) (Ideal.log (Scalar.select (v (ix1 i)) (M (ix1 i)) 1)) 0))
      (max (∑ i, (((v (ix1 i)).toNat : ℝ) : EReal)) 1) := by
  funext z
  pointwise []
  rfl

end Cert.RefRows

end
-- ==== Proof.Softmax.lean ====
/-
  A row's share of its softmax weights does not depend on the number subtracted from its similarities.
-/
module

public import proofs.«01_k».proof.Proof.RefRows

@[expose] public section

noncomputable section

namespace Cert.Softmax

open Idealize.ShloMosaic

/-- A sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a positive one, read as an extended real. -/
theorem div_coe (a : ℝ) {b : ℝ} (h : 0 < b) : Ideal.div (a : EReal) (b : EReal) = ((a / b : ℝ) : EReal) := by
  unfold Ideal.div
  rw [if_neg (by rw [← EReal.coe_zero]; exact fun e => h.ne' (EReal.coe_injective e)), ← EReal.coe_inv, ← EReal.coe_mul]
  rfl

/-- The marked weights' share is the same whatever number is subtracted first. -/
theorem share_eq {k : Nat} (hk : 0 < k) (r h : Fin k → ℝ) (μ : ℝ) :
    ∑ q, Ideal.div (Ideal.exp ((r q : EReal) - (μ : EReal))) (∑ p, Ideal.exp ((r p : EReal) - (μ : EReal))) * (h q : EReal) =
      Ideal.div (∑ q, Ideal.exp (r q : EReal) * (h q : EReal)) (∑ q, Ideal.exp (r q : EReal)) := by
  have he : ∀ q, Ideal.exp ((r q : EReal) - (μ : EReal)) = ((Real.exp (r q - μ) : ℝ) : EReal) := fun q => by
    rw [← EReal.coe_sub]; rfl
  have he' : ∀ q, Ideal.exp (r q : EReal) = ((Real.exp (r q) : ℝ) : EReal) := fun q => rfl
  have : Nonempty (Fin k) := ⟨⟨0, hk⟩⟩
  have hp : 0 < ∑ p, Real.exp (r p - μ) := Finset.sum_pos (fun p _ => Real.exp_pos _) Finset.univ_nonempty
  have hp' : 0 < ∑ p, Real.exp (r p) := Finset.sum_pos (fun p _ => Real.exp_pos _) Finset.univ_nonempty
  simp only [he, he', ← coe_sum, ← EReal.coe_mul, div_coe _ hp, div_coe _ hp']
  apply congrArg
  have hs : ∑ p, Real.exp (r p - μ) = (∑ p, Real.exp (r p)) * Real.exp (-μ) := by
    rw [Finset.sum_mul]
    exact Finset.sum_congr rfl fun p _ => by rw [← Real.exp_add]; rfl
  rw [Finset.sum_div]
  refine Finset.sum_congr rfl fun q _ => ?_
  rw [hs, sub_eq_add_neg, Real.exp_add, mul_div_mul_right _ _ (Real.exp_pos _).ne']
  ring

/-- The greatest of some numbers, from minus infinity, is a number. -/
theorem fold_real {ι : Type} (s : Finset ι) (f : ι → EReal) (h : ∀ i ∈ s, ∃ r : ℝ, f i = r) :
    s = ∅ ∨ ∃ μ : ℝ, s.fold max (⊥ : EReal) f = μ := by
  induction s using Finset.cons_induction with
  | empty => exact Or.inl rfl
  | cons a s ha ih =>
    obtain ⟨r, hr⟩ := h a (Finset.mem_cons_self a s)
    rw [Finset.fold_cons, hr]
    rcases ih fun i hi => h i (Finset.mem_cons_of_mem hi) with rfl | ⟨μ, hμ⟩
    · exact Or.inr ⟨r, max_bot_right _⟩
    · exact Or.inr ⟨max r μ, by rw [hμ]; exact (EReal.coe_strictMono.monotone.map_max).symm⟩

/-- The greatest of the entries of an array that drop to one place, when they are numbers. -/
theorem reduce_real {s t u : Shape} {axes : List (Fin s.rank)} (h : s.ReducesTo axes t) (hu : 0 < u.numel) (x : FVec Ideal s .f32)
    (init : FVec Ideal u .f32) (j : t.Idx) (i₀ : s.Idx) (h0 : h.drop i₀ = j) (hx : ∀ i, h.drop i = j → ∃ r : ℝ, x i = (r : EReal))
    (hi : init (Shape.Idx.first hu) = (⊥ : EReal)) :
    ∃ μ : ℝ, Host.reduce (FloatOps.maximumf (F := Ideal) (φ := .f32)) x init h hu j = (μ : EReal) := by
  have hf : Host.reduce (FloatOps.maximumf (F := Ideal) (φ := .f32)) x init h hu j =
      (Finset.univ.filter fun y => h.drop y = j).fold max (init (Shape.Idx.first hu) : EReal) x :=
    Host.reduce_eq_fold (max : EReal → EReal → EReal) x init h hu j
  rw [hf, hi]
  rcases fold_real (Finset.univ.filter fun y => h.drop y = j) x (fun y hy => hx y (Finset.mem_filter.mp hy).2) with he | hμ
  · have hm : i₀ ∈ Finset.univ.filter fun y => h.drop y = j := Finset.mem_filter.mpr ⟨Finset.mem_univ _, h0⟩
    rw [he] at hm
    exact absurd hm (Finset.notMem_empty _)
  · exact hμ

section Max

open Cert.ReferenceIdeal Cert.ReferenceIdeal.Gen

/-- Where an entry goes when the columns are reduced away. -/
theorem drop_ix (i : Fin 4096) (q : Fin 2048) : reducesTo_S4096x2048_S4096_d1.drop (ix2 i q) = ix1 i := by
  funext b
  match b with
  | ⟨0, _⟩ => rfl

/-- The column of an index. -/
def colOf (x : S4096x2048.Idx) : Fin 2048 := x 1

/-- The entries that are reduced to one row. -/
theorem of_drop (x : S4096x2048.Idx) (i : Fin 4096) (h : reducesTo_S4096x2048_S4096_d1.drop x = ix1 i) : x = ix2 i (colOf x) := by
  funext b
  match b with
  | ⟨0, _⟩ => exact congrFun h 0
  | ⟨1, _⟩ => rfl

/-- The maximum with minus infinity, entry by entry. -/
theorem max_bot_apply (M : FVec Ideal S4096 .f32) (i : Fin 4096) (hb : Ideal.ofBits .f32 0xFF800000#32 = ⊥) :
    maximumf (broadcastInDim S4096 ![] bcast_S_S4096 (constant (F := Ideal) S_ .f32 0xFF800000#32)) M (ix1 i) = max (⊥ : EReal) (M (ix1 i)) := by
  pointwise []
  rw [hb]

/-- The greatest entry of a row of numbers is a number. -/
theorem max_real (x : FVec Ideal S4096x2048 .f32) (i : Fin 4096) (h : ∀ q, ∃ r : ℝ, x (ix2 i q) = (r : EReal)) :
    ∃ μ : ℝ, maximumf (broadcastInDim S4096 ![] bcast_S_S4096 (constant (F := Ideal) S_ .f32 0xFF800000#32))
      (Host.reduce FloatOps.maximumf x (constant S_ .f32 0xFF800000#32) reducesTo_S4096x2048_S4096_d1 h_S_) (ix1 i) = (μ : EReal) := by
  have hb : Ideal.ofBits .f32 0xFF800000#32 = ⊥ := by simp [Ideal.ofBits, Ideal.ieee]
  obtain ⟨μ, hμ⟩ := reduce_real reducesTo_S4096x2048_S4096_d1 h_S_ x (constant S_ .f32 0xFF800000#32) (ix1 i) (ix2 i (⟨0, by omega⟩ : Fin 2048))
    (drop_ix i _) (fun y hy => by rw [of_drop y i hy]; exact h _) hb
  refine ⟨μ, ?_⟩
  rw [max_bot_apply _ i hb, hμ]
  exact max_bot_left _

end Max

end Cert.Softmax

end
-- ==== Proof.RefLoss.lean ====
/-
  The reference's result: the loss of the features and labels it reads.
-/
module

public import proofs.«01_k».proof.Proof.RefChosen
public import proofs.«01_k».proof.Proof.RefRows
public import proofs.«01_k».proof.Proof.Softmax
public import proofs.«01_k».proof.Proof.SimReal
public import proofs.«01_k».proof.Proof.Pass2

@[expose] public section

set_option maxRecDepth 16384

noncomputable section

namespace Cert.RefValue

open Idealize.ShloMosaic Idealize.ShloMosaic.StableHlo Cert.ReferenceIdeal Cert.ReferenceIdeal.Gen Cert.ReferenceIdeal.Value Cert.Order

/-- Half of the columns are kept. -/
theorem half_le : 2048 ≤ 4096 := by omega

/-- A sum over the columns listed first is a sum over all columns weighted by whether they are chosen. -/
theorem sum_chosen (q f : Fin 4096 → EReal) :
    ∑ p : Fin 2048, f (listed q (p.castLE half_le)) = ∑ j, Spec.chosen q j * f j := by
  rw [sum_listed q half_le f]
  refine Finset.sum_congr rfl fun j _ => ?_
  unfold Spec.chosen
  split
  · exact (one_mul _).symm
  · exact (zero_mul _).symm

/-- A mark is a real number. -/
theorem hit_real (b a : Nat) : Spec.hit b a = ((if b = a then 1 else 0 : ℝ) : EReal) := by
  unfold Spec.hit
  split
  · exact EReal.coe_one.symm
  · exact EReal.coe_zero.symm

/-- A row's share, from its similarities to the columns listed first with any number subtracted. -/
theorem share_listed (s : Fin 4096 → EReal) (hs : ∀ j, ∃ r : ℝ, s j = (r : EReal)) (q : Fin 4096 → EReal) (a : Fin 4096 → Nat) (b : Nat) (μ : ℝ) :
    ∑ p : Fin 2048, Ideal.div (Ideal.exp (s (listed q (p.castLE half_le)) - (μ : EReal))) (∑ p : Fin 2048, Ideal.exp (s (listed q (p.castLE half_le)) - (μ : EReal)))
        * Spec.hit b (a (listed q (p.castLE half_le))) =
      Ideal.div (∑ j, Ideal.exp (s j) * Spec.chosen q j * Spec.hit b (a j)) (∑ j, Ideal.exp (s j) * Spec.chosen q j) := by
  choose r hr using hs
  have e1 := sum_chosen q fun j => Ideal.exp (s j) * Spec.hit b (a j)
  have e2 := sum_chosen q fun j => Ideal.exp (s j)
  have e3 := Softmax.share_eq (k := 2048) (by omega) (fun p => r (listed q (p.castLE half_le)))
    (fun p => if b = a (listed q (p.castLE half_le)) then 1 else 0) μ
  simp only [hr, hit_real] at e1 e2 e3 ⊢
  rw [e3]
  refine congrArg₂ Ideal.div (e1.trans (Finset.sum_congr rfl fun j _ => ?_)) (e2.trans (Finset.sum_congr rfl fun j _ => mul_comm _ _))
  rw [← mul_assoc, mul_comm (Spec.chosen q j)]

/-- Whether a row takes part, from its marks of the columns listed first. -/
theorem valid_listed (q : Fin 4096 → EReal) (a : Fin 4096 → Nat) (b : Nat) (g : Fin 2048 → EReal)
    (hg : ∀ p, g p = Spec.hit b (a (listed q (p.castLE half_le)))) :
    IntOp.andi (BitVec.ofBool (decide ((0 : EReal) < ∑ p, g p))) (BitVec.ofBool (decide ((0 : EReal) < ∑ p, (1 - g p)))) =
      BitVec.ofBool (decide (Spec.Valid (Spec.chosen q) a b)) := by
  rw [Finset.sum_congr rfl fun p _ => hg p, Finset.sum_congr rfl fun p _ => congrArg (fun z : EReal => 1 - z) (hg p),
    sum_chosen q fun j => Spec.hit b (a j), sum_chosen q fun j => 1 - Spec.hit b (a j), Array1.andi_ofBool, ← Bool.decide_and]
  exact congrArg _ (decide_eq_decide.mpr Iff.rfl)

/-- A share depends only on the weights and the marks. -/
theorem share_congr (e e' g g' : Fin 2048 → EReal) (he : ∀ q, e q = e' q) (hg : ∀ q, g q = g' q) :
    ∑ q, Ideal.div (e q) (∑ p, e p) * g q = ∑ q, Ideal.div (e' q) (∑ p, e' p) * g' q := by
  rw [funext he, funext hg]

variable (V : Valuation τ sig (Elt Ideal))

variable {ℓ : Fin 4096 → Nat} (hℓ : ∀ i, ℓ i < 64) (hl : ∀ i, lab V i = BitVec.ofNat 32 (ℓ i))
include hℓ hl

/-- Which rows take part. -/
theorem v92_apply (i : Fin 4096) : res_main_v92 V (ix1 i) = BitVec.ofBool (decide (Spec.Valid (Spec.chosen (rat V ℓ)) (asg V ℓ) (ℓ i))) := by
  unfold res_main_v92
  exact (RefRows.valid_apply (res_main_v83 V) i).trans
    (valid_listed (rat V ℓ) (asg V ℓ) (ℓ i) (fun q => res_main_v83 V (ix2 i q)) fun q => v83_apply V hℓ hl i q half_le)

/-- The share of a row's label. -/
theorem share_apply (i : Fin 4096) :
    ∑ q, Ideal.div (res_main_v99 V (ix2 i q)) (∑ p, res_main_v99 V (ix2 i p)) * res_main_v83 V (ix2 i q) =
      Ideal.div (∑ j, Ideal.exp (Spec.sim (src V) (tgt V) i j) * Spec.chosen (rat V ℓ) j * Spec.hit (ℓ i) (asg V ℓ j))
        (∑ j, Ideal.exp (Spec.sim (src V) (tgt V) i j) * Spec.chosen (rat V ℓ) j) := by
  have hx : ∀ q : Fin 2048, res_main_v70 V (ix2 i q) = Spec.sim (src V) (tgt V) i (listed (rat V ℓ) (q.castLE half_le)) :=
    fun q => v70_apply V hℓ hl i q half_le
  obtain ⟨μ, hμ⟩ := Softmax.max_real (res_main_v70 V) i fun q => by
    obtain ⟨r, hr⟩ := Spec.sim_real (src V) (tgt V) i (listed (rat V ℓ) (q.castLE half_le))
    exact ⟨r, (hx q).trans hr⟩
  have hw : ∀ q : Fin 2048, res_main_v99 V (ix2 i q) = Ideal.exp (Spec.sim (src V) (tgt V) i (listed (rat V ℓ) (q.castLE half_le)) - (μ : EReal)) := fun q => by
    unfold res_main_v99
    refine (RefRows.weight_apply _ _ i q).trans ?_
    rw [hμ, hx q]
  rw [← share_listed (fun j => Spec.sim (src V) (tgt V) i j) (fun j => Spec.sim_real _ _ i j) (rat V ℓ) (asg V ℓ) (ℓ i) μ]
  exact share_congr _ _ _ _ hw fun q => v83_apply V hℓ hl i q half_le

/-- The reference's result. -/
theorem v114_apply : val3 V (Proc.devRef .tc main_v114) = fun _ => Spec.result (src V) (tgt V) ℓ := by
  refine (val3_main_v114 V).trans ((RefRows.loss_apply (res_main_v92 V) _).trans ?_)
  funext z
  unfold Spec.result Spec.loss
  refine congrArg₂ Ideal.div (congrArg (fun z : EReal => -z) (Finset.sum_congr rfl fun i _ => ?_))
    (congrArg (fun z : EReal => max z 1) (Finset.sum_congr rfl fun i _ => ?_))
  · rw [v92_apply V hℓ hl i, Pass2.select_ofBool, Pass2.select_ofBool, RefRows.share_apply (res_main_v99 V) (res_main_v83 V) i, share_apply V hℓ hl i]
    unfold Spec.term
    by_cases h : Spec.Valid (Spec.chosen (rat V ℓ)) (asg V ℓ) (ℓ i)
    · exact (if_pos h).trans ((congrArg Ideal.log (if_pos h)).trans (if_pos h).symm)
    · exact (if_neg h).trans (if_neg h).symm
  · rw [v92_apply V hℓ hl i]
    by_cases h : Spec.Valid (Spec.chosen (rat V ℓ)) (asg V ℓ) (ℓ i)
    · refine Eq.trans ?_ (if_pos h).symm
      simp [h]
    · refine Eq.trans ?_ (if_neg h).symm
      simp [h]

end Cert.RefValue

end
-- ==== Proof.Labels.lean ====
/-
  The precondition: the source labels lie between 0 and 63.
-/
module

public import proofs.«01_k».proof.Pre_labels_in_range
public import Idealize.ShloMosaic.Lib.Pointwise
public import Idealize.ShloMosaic.Lib.WordCmp

@[expose] public section

noncomputable section

namespace Cert.Labels

open Idealize.ShloMosaic Cert.Pre_labels_in_range

/-- The side condition of the precondition's operations. -/
theorem facts : Facts where
  bcast_S_S4096 := by decide

/-- Where the precondition holds every label, read as a natural number, is below 64. -/
theorem lt_of_pre (x y : FVec Ideal S4096x64 .f32) (l : IVec S4096 32) (h : (letI := facts; fn (F := Ideal) x l y) = fun _ => 1#1) (i : Fin 4096) :
    (l (ix1 i)).toNat < 64 := by
  have e : IntOp.andi (IntOp.cmpi .sge (l (ix1 i)) 0#32) (IntOp.cmpi .slt (l (ix1 i)) (BitVec.ofNat 32 64)) = 1#1 := congrFun h (ix1 i)
  rw [WordCmp.andi_sge_zero_slt_ofNat (by decide)] at e
  by_contra hn
  rw [decide_eq_false hn] at e
  exact absurd e (by decide)

/-- A word is the word of the natural number it reads as. -/
theorem word_eq (x : BitVec 32) : x = BitVec.ofNat 32 x.toNat := by simp

end Cert.Labels

end
-- ==== Proof.lean ====
/- The proof of the certificate's claim: it assembles the frames of the three programs and the value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KernelRun
public import proofs.«01_k».proof.Proof.KernelValue
public import proofs.«01_k».proof.Proof.RefLoss
public import proofs.«01_k».proof.Proof.Labels
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore, so every counter is at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩)
    (Cert.ReferenceIdeal.Value.run (F := Ideal) m g)

/-- From memories that agree on the arguments, with the labels between 0 and 63, the kernel and the reference end with
    the same loss. -/
theorem value : algebraic_KernelIdeal_ReferenceIdeal_pre_labels_in_range (hKernelIdeal := Cert.KernelIdeal.Gen.facts)
    (hReferenceIdeal := Cert.ReferenceIdeal.Gen.facts) (hPre_labels_in_range := Cert.Labels.facts) := by
  intro m g m' g' hpre hargs
  have hℓ : ∀ c i, (Cert.KernelValue.lab m c i).toNat < 64 := fun c i => Cert.Labels.lt_of_pre _ _ _ (hpre c) i
  have hsrc : ∀ c, Cert.RefValue.src (StableHlo.launchContents m' c) = Cert.KernelValue.src m c := fun c => by
    funext i d
    exact congrFun (hargs c).1 (ix2 i d)
  have htgt : ∀ c, Cert.RefValue.tgt (StableHlo.launchContents m' c) = Cert.KernelValue.tgt m c := fun c => by
    funext i d
    exact congrFun (hargs c).2.2 (ix2 i d)
  have hlab : ∀ c i, Cert.RefValue.lab (StableHlo.launchContents m' c) i = Cert.KernelValue.lab m c i := fun c i =>
    congrFun (hargs c).2.1 (ix1 i)
  refine ⟨fun c _ => Spec.result (Cert.KernelValue.src m c) (Cert.KernelValue.tgt m c) fun i => (Cert.KernelValue.lab m c i).toNat, ?_, ?_⟩
  · refine (θ_run _ _ _).mono (fun r h c => ⟨(h c).1.trans ?_, (h c).2⟩) (Cert.KernelRun.run_value m g)
    exact Cert.KernelValue.W6_value m g c (hℓ c) fun i => Cert.Labels.word_eq _
  · refine (θ_run _ _ _).mono (fun r h c => ⟨(h c).1.trans ?_, (h c).2⟩) (Cert.ReferenceIdeal.Value.run (F := Ideal) m' g')
    refine (Cert.ReferenceIdeal.Value.val3_main_v114 _).symm.trans ?_
    refine (Cert.RefValue.v114_apply (StableHlo.launchContents m' c) (hℓ c) fun i => (hlab c i).trans (Cert.Labels.word_eq _)).trans ?_
    rw [hsrc c, htgt c]
    rfl

/-- The certificate's claim. -/
theorem claim : Cert.Claim := ⟨Cert.Kernel.Gen.facts, Cert.KernelIdeal.Gen.facts, Cert.ReferenceIdeal.Gen.facts, Cert.Labels.facts,
  fun m g _ => Cert.Kernel.Gen.frame m g, fun m g _ => Cert.KernelIdeal.Gen.frame m g, fun m g _ => Cert.KernelIdeal.Gen.frame m g,
  fun m g _ => reference_frame m g, fun m g _ => reference_frame m g, trivial, value⟩

end Cert.Proof

end
